-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "neg_threshold" .f32 0x3E924925#32 ((13421773 / 46976205 : ℝ) : EReal)
  ∧ IdealRules.named_const.Statement Cert.KernelIdeal.κ "log_32" .f32 0x405DCE9E#32 ((Real.log 32 : ℝ) : EReal)
  ∧ IdealRules.named_const.Statement Cert.KernelIdeal.κ "log_64" .f32 0x40851592#32 ((Real.log 64 : ℝ) : EReal)
  ∧ IdealRules.named_const.Statement Cert.KernelIdeal.κ "log_128" .f32 0x409B43D5#32 ((Real.log 128 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_offset_loss_nonneg [hKernelIdeal : Cert.KernelIdeal.Facts] [hPost_offset_loss_nonneg : Cert.Post_offset_loss_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_offset_loss_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v17))) = (fun _ => 1#1))

def Claim : Prop :=
  ∃ (hKernel : Cert.Kernel.Facts) (hKernelIdeal : Cert.KernelIdeal.Facts) (hReference : Cert.Reference.Facts) (hReferenceIdeal : Cert.ReferenceIdeal.Facts) (hPost_offset_loss_nonneg : Cert.Post_offset_loss_nonneg.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_offset_loss_nonneg (hKernelIdeal := hKernelIdeal) (hPost_offset_loss_nonneg := hPost_offset_loss_nonneg)
-- ==== Post_offset_loss_nonneg.lean ====
abbrev S8x3x128x128 : Shape := ⟨4, ![8, 3, 128, 128]⟩
abbrev S8x12x128x128 : Shape := ⟨4, ![8, 12, 128, 128]⟩
abbrev S8x64x4 : Shape := ⟨3, ![8, 64, 4]⟩
abbrev S2 : Shape := ⟨1, ![2]⟩
abbrev S1 : Shape := ⟨1, ![1]⟩
abbrev S_ : Shape := ⟨0, ![]⟩

class Facts : Prop where
  slices_S2_S1_1 : S2.Slices ![1] S1
  bcast_S_S1 : S_.BroadcastsInDim S1 (![] : Fin 0 → Fin S1.rank)

variable [Facts]

def fn {F : FTy → Type} [FloatOps F] (main_arg0 : FVec F S8x3x128x128 .f32) (main_arg1 : FVec F S8x12x128x128 .f32) (main_arg2 : FVec F S8x64x4 .f32) (main_arg3 : FVec F S2 .f32) : IVec S1 1 :=
  let main_v0 : FVec F S1 .f32 := (extractStridedSlice S1 ![1] · slices_S2_S1_1) main_arg3
  let main_cst : FVec F S_ .f32 := constant S_ .f32 0x00000000#32
  let main_v1 : FVec F S1 .f32 := broadcastInDim S1 ![] bcast_S_S1 main_cst
  let main_v2 : IVec S1 1 := cmpf .oge main_v0 main_v1
  main_v2
-- ==== Kernel.lean ====
abbrev S8x3x128x128 : Shape := ⟨4, ![8, 3, 128, 128]⟩
abbrev S8x12x128x128 : Shape := ⟨4, ![8, 12, 128, 128]⟩
abbrev S8x64x4 : Shape := ⟨3, ![8, 64, 4]⟩
abbrev S8x4x64 : Shape := ⟨3, ![8, 4, 64]⟩
abbrev S_ : Shape := ⟨0, ![]⟩
abbrev S8x8x128 : Shape := ⟨3, ![8, 8, 128]⟩
abbrev S8x1x128 : Shape := ⟨3, ![8, 1, 128]⟩
abbrev S1x3x128x128 : Shape := ⟨4, ![1, 3, 128, 128]⟩
abbrev S1x12x128x128 : Shape := ⟨4, ![1, 12, 128, 128]⟩
abbrev S1x64x4 : Shape := ⟨3, ![1, 64, 4]⟩
abbrev S1x8x128 : Shape := ⟨3, ![1, 8, 128]⟩
abbrev S1x1x128 : Shape := ⟨3, ![1, 1, 128]⟩
abbrev S3x64x128 : Shape := ⟨3, ![3, 64, 128]⟩
abbrev S3x128x128 : Shape := ⟨3, ![3, 128, 128]⟩
abbrev S5x64x128 : Shape := ⟨3, ![5, 64, 128]⟩
abbrev S64x4 : Shape := ⟨2, ![64, 4]⟩
abbrev S64x1 : Shape := ⟨2, ![64, 1]⟩
abbrev S8x128 : Shape := ⟨2, ![8, 128]⟩
abbrev S1x128 : Shape := ⟨2, ![1, 128]⟩
abbrev S128x1 : Shape := ⟨2, ![128, 1]⟩
abbrev S64x128 : Shape := ⟨2, ![64, 128]⟩
abbrev S1x64x128 : Shape := ⟨3, ![1, 64, 128]⟩
abbrev S128x128 : Shape := ⟨2, ![128, 128]⟩
abbrev S1x128x128 : Shape := ⟨3, ![1, 128, 128]⟩
abbrev S64 : Shape := ⟨1, ![64]⟩
abbrev S1x32x128 : Shape := ⟨3, ![1, 32, 128]⟩
abbrev S32x128 : Shape := ⟨2, ![32, 128]⟩
abbrev S32x1 : Shape := ⟨2, ![32, 1]⟩
abbrev S1x1x32x128 : Shape := ⟨4, ![1, 1, 32, 128]⟩
abbrev S1 : Shape := ⟨1, ![1]⟩
abbrev S1x1x1 : Shape := ⟨3, ![1, 1, 1]⟩
abbrev S1x4x32x128 : Shape := ⟨4, ![1, 4, 32, 128]⟩
abbrev S4x32x128 : Shape := ⟨3, ![4, 32, 128]⟩
abbrev S8x1x3 : Shape := ⟨3, ![8, 1, 3]⟩
abbrev S8x3 : Shape := ⟨2, ![8, 3]⟩
abbrev S3 : Shape := ⟨1, ![3]⟩
abbrev S2 : Shape := ⟨1, ![2]⟩

abbrev nBuf : Space → Nat
  | .hbm => 25
  | .vmem => 13
  | .smem => 0
  | _ => 0

abbrev bufTy : (tb : Table) → Fin (tcTables nBuf tb) → BufTy
  | .hbm, ⟨0, _⟩ => ⟨S8x3x128x128, .f32⟩
  | .hbm, ⟨1, _⟩ => ⟨S8x12x128x128, .f32⟩
  | .hbm, ⟨2, _⟩ => ⟨S8x64x4, .f32⟩
  | .hbm, ⟨3, _⟩ => ⟨S8x4x64, .f32⟩
  | .hbm, ⟨4, _⟩ => ⟨S_, .i32⟩
  | .hbm, ⟨5, _⟩ => ⟨S_, .f32⟩
  | .hbm, ⟨6, _⟩ => ⟨S8x8x128, .f32⟩
  | .hbm, ⟨7, _⟩ => ⟨S8x1x128, .f32⟩
  | .hbm, ⟨8, _⟩ => ⟨S8x1x3, .f32⟩
  | .hbm, ⟨9, _⟩ => ⟨S8x3, .f32⟩
  | .hbm, ⟨10, _⟩ => ⟨S_, .f32⟩
  | .hbm, ⟨11, _⟩ => ⟨S3, .f32⟩
  | .hbm, ⟨12, _⟩ => ⟨S1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S2, .f32⟩
  | .local _ .vmem, ⟨0, _⟩ => ⟨S1x3x128x128, .f32⟩
  | .local _ .vmem, ⟨1, _⟩ => ⟨S1x3x128x128, .f32⟩
  | .local _ .vmem, ⟨2, _⟩ => ⟨S1x12x128x128, .f32⟩
  | .local _ .vmem, ⟨3, _⟩ => ⟨S1x12x128x128, .f32⟩
  | .local _ .vmem, ⟨4, _⟩ => ⟨S1x64x4, .f32⟩
  | .local _ .vmem, ⟨5, _⟩ => ⟨S1x64x4, .f32⟩
  | .local _ .vmem, ⟨6, _⟩ => ⟨S1x8x128, .f32⟩
  | .local _ .vmem, ⟨7, _⟩ => ⟨S1x8x128, .f32⟩
  | .local _ .vmem, ⟨8, _⟩ => ⟨S1x1x128, .f32⟩
  | .local _ .vmem, ⟨9, _⟩ => ⟨S1x1x128, .f32⟩
  | .local _ .vmem, ⟨10, _⟩ => ⟨S3x64x128, .f32⟩
  | .local _ .vmem, ⟨11, _⟩ => ⟨S3x128x128, .f32⟩
  | .local _ .vmem, ⟨12, _⟩ => ⟨S5x64x128, .f32⟩
  | _, _ => ⟨S8x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log_128" => some ((Real.log 128 : ℝ) : EReal)
  | "log_32" => some ((Real.log 32 : ℝ) : EReal)
  | "log_64" => some ((Real.log 64 : ℝ) : EReal)
  | "neg_threshold" => some ((13421773 / 46976205 : ℝ) : EReal)
  | "third" => some ((1 / 3 : ℝ) : EReal)
  | _ => none
-- ==== Reference.lean ====
abbrev S8x3x128x128 : Shape := ⟨4, ![8, 3, 128, 128]⟩
abbrev S8x12x128x128 : Shape := ⟨4, ![8, 12, 128, 128]⟩
abbrev S8x64x4 : Shape := ⟨3, ![8, 64, 4]⟩
abbrev S3x128x128 : Shape := ⟨3, ![3, 128, 128]⟩
abbrev S_ : Shape := ⟨0, ![]⟩
abbrev S8x64x1 : Shape := ⟨3, ![8, 64, 1]⟩
abbrev S8x64 : Shape := ⟨2, ![8, 64]⟩
abbrev S1x3x128x128x1 : Shape := ⟨5, ![1, 3, 128, 128, 1]⟩
abbrev S8x1x1x1x64 : Shape := ⟨5, ![8, 1, 1, 1, 64]⟩
abbrev S8x3x128x128x64 : Shape := ⟨5, ![8, 3, 128, 128, 64]⟩
abbrev S8x3x128x128x1 : Shape := ⟨5, ![8, 3, 128, 128, 1]⟩
abbrev S1x3x128x128 : Shape := ⟨4, ![1, 3, 128, 128]⟩
abbrev S8x3x1x128x128 : Shape := ⟨5, ![8, 3, 1, 128, 128]⟩
abbrev S8x3x4x128x128 : Shape := ⟨5, ![8, 3, 4, 128, 128]⟩
abbrev S1 : Shape := ⟨1, ![1]⟩
abbrev S2 : Shape := ⟨1, ![2]⟩

abbrev nBuf : Space → Nat
  | .hbm => 282
  | .vmem => 0
  | .smem => 0
  | _ => 0

abbrev hbmTy0_0 (i : Nat) : BufTy := match i % 128 with
  | 0 => ⟨S8x3x128x128, .f32⟩
  | 1 => ⟨S8x12x128x128, .f32⟩
  | 2 => ⟨S8x64x4, .f32⟩
  | 3 => ⟨S3x128x128, .i32⟩
  | 4 => ⟨S3x128x128, .f32⟩
  | 5 => ⟨S_, .f32⟩
  | 6 => ⟨S3x128x128, .f32⟩
  | 7 => ⟨S3x128x128, .f32⟩
  | 8 => ⟨S_, .f32⟩
  | 9 => ⟨S3x128x128, .f32⟩
  | 10 => ⟨S3x128x128, .f32⟩
  | 11 => ⟨S3x128x128, .i32⟩
  | 12 => ⟨S3x128x128, .f32⟩
  | 13 => ⟨S_, .f32⟩
  | 14 => ⟨S3x128x128, .f32⟩
  | 15 => ⟨S3x128x128, .f32⟩
  | 16 => ⟨S_, .f32⟩
  | 17 => ⟨S3x128x128, .f32⟩
  | 18 => ⟨S3x128x128, .f32⟩
  | 19 => ⟨S3x128x128, .i32⟩
  | 20 => ⟨S_, .i32⟩
  | 21 => ⟨S3x128x128, .i32⟩
  | 22 => ⟨S3x128x128, .i1⟩
  | 23 => ⟨S_, .i32⟩
  | 24 => ⟨S3x128x128, .i32⟩
  | 25 => ⟨S3x128x128, .i1⟩
  | 26 => ⟨S_, .f32⟩
  | 27 => ⟨S_, .f32⟩
  | 28 => ⟨S3x128x128, .f32⟩
  | 29 => ⟨S3x128x128, .f32⟩
  | 30 => ⟨S3x128x128, .f32⟩
  | 31 => ⟨S_, .f32⟩
  | 32 => ⟨S3x128x128, .f32⟩
  | 33 => ⟨S3x128x128, .f32⟩
  | 34 => ⟨S_, .f32⟩
  | 35 => ⟨S3x128x128, .f32⟩
  | 36 => ⟨S3x128x128, .f32⟩
  | 37 => ⟨S3x128x128, .f32⟩
  | 38 => ⟨S3x128x128, .f32⟩
  | 39 => ⟨S3x128x128, .f32⟩
  | 40 => ⟨S3x128x128, .f32⟩
  | 41 => ⟨S3x128x128, .f32⟩
  | 42 => ⟨S3x128x128, .f32⟩
  | 43 => ⟨S3x128x128, .f32⟩
  | 44 => ⟨S3x128x128, .f32⟩
  | 45 => ⟨S_, .f32⟩
  | 46 => ⟨S3x128x128, .f32⟩
  | 47 => ⟨S3x128x128, .i1⟩
  | 48 => ⟨S_, .f32⟩
  | 49 => ⟨S3x128x128, .f32⟩
  | 50 => ⟨S3x128x128, .i1⟩
  | 51 => ⟨S3x128x128, .i1⟩
  | 52 => ⟨S_, .f32⟩
  | 53 => ⟨S3x128x128, .f32⟩
  | 54 => ⟨S3x128x128, .i1⟩
  | 55 => ⟨S3x128x128, .i1⟩
  | 56 => ⟨S_, .f32⟩
  | 57 => ⟨S3x128x128, .f32⟩
  | 58 => ⟨S3x128x128, .i1⟩
  | 59 => ⟨S3x128x128, .i1⟩
  | 60 => ⟨S8x64x1, .f32⟩
  | 61 => ⟨S8x64, .f32⟩
  | 62 => ⟨S8x64x1, .f32⟩
  | 63 => ⟨S8x64, .f32⟩
  | 64 => ⟨S8x64x1, .f32⟩
  | 65 => ⟨S8x64, .f32⟩
  | 66 => ⟨S8x64x1, .f32⟩
  | 67 => ⟨S8x64, .f32⟩
  | 68 => ⟨S1x3x128x128x1, .f32⟩
  | 69 => ⟨S8x1x1x1x64, .f32⟩
  | 70 => ⟨S8x3x128x128x64, .f32⟩
  | 71 => ⟨S8x3x128x128x64, .f32⟩
  | 72 => ⟨S8x3x128x128x64, .f32⟩
  | 73 => ⟨S1x3x128x128x1, .f32⟩
  | 74 => ⟨S8x1x1x1x64, .f32⟩
  | 75 => ⟨S8x3x128x128x64, .f32⟩
  | 76 => ⟨S8x3x128x128x64, .f32⟩
  | 77 => ⟨S8x3x128x128x64, .f32⟩
  | 78 => ⟨S8x3x128x128x64, .f32⟩
  | 79 => ⟨S_, .f32⟩
  | 80 => ⟨S8x3x128x128x64, .f32⟩
  | 81 => ⟨S8x3x128x128x64, .f32⟩
  | 82 => ⟨S1x3x128x128x1, .f32⟩
  | 83 => ⟨S8x1x1x1x64, .f32⟩
  | 84 => ⟨S8x3x128x128x64, .f32⟩
  | 85 => ⟨S8x3x128x128x64, .f32⟩
  | 86 => ⟨S8x3x128x128x64, .f32⟩
  | 87 => ⟨S1x3x128x128x1, .f32⟩
  | 88 => ⟨S8x1x1x1x64, .f32⟩
  | 89 => ⟨S8x3x128x128x64, .f32⟩
  | 90 => ⟨S8x3x128x128x64, .f32⟩
  | 91 => ⟨S8x3x128x128x64, .f32⟩
  | 92 => ⟨S8x3x128x128x64, .f32⟩
  | 93 => ⟨S_, .f32⟩
  | 94 => ⟨S8x3x128x128x64, .f32⟩
  | 95 => ⟨S8x3x128x128x64, .f32⟩
  | 96 => ⟨S8x3x128x128x64, .f32⟩
  | 97 => ⟨S3x128x128, .f32⟩
  | 98 => ⟨S3x128x128, .f32⟩
  | 99 => ⟨S3x128x128, .f32⟩
  | 100 => ⟨S8x64, .f32⟩
  | 101 => ⟨S8x64, .f32⟩
  | 102 => ⟨S8x64, .f32⟩
  | 103 => ⟨S1x3x128x128x1, .f32⟩
  | 104 => ⟨S8x1x1x1x64, .f32⟩
  | 105 => ⟨S8x3x128x128x64, .f32⟩
  | 106 => ⟨S8x3x128x128x64, .f32⟩
  | 107 => ⟨S8x3x128x128x64, .f32⟩
  | 108 => ⟨S8x3x128x128x64, .f32⟩
  | 109 => ⟨S_, .f32⟩
  | 110 => ⟨S8x3x128x128x64, .f32⟩
  | 111 => ⟨S8x3x128x128x64, .f32⟩
  | 112 => ⟨S8x3x128x128x64, .f32⟩
  | 113 => ⟨S_, .f32⟩
  | 114 => ⟨S8x3x128x128, .f32⟩
  | 115 => ⟨S8x3x128x128x64, .i32⟩
  | 116 => ⟨S8x3x128x128x1, .f32⟩
  | 117 => ⟨S8x3x128x128x64, .f32⟩
  | 118 => ⟨S8x3x128x128x64, .i1⟩
  | 119 => ⟨S_, .i32⟩
  | 120 => ⟨S_, .i32⟩
  | 121 => ⟨S8x3x128x128x64, .i32⟩
  | 122 => ⟨S8x3x128x128x64, .i32⟩
  | 123 => ⟨S_, .i32⟩
  | 124 => ⟨S8x3x128x128, .i32⟩
  | 125 => ⟨S_, .f32⟩
  | 126 => ⟨S8x64, .f32⟩
  | 127 => ⟨S8x1x1x1x64, .f32⟩
  | _ => ⟨S8x3x128x128, .f32⟩

abbrev hbmTy0_1 (i : Nat) : BufTy := match i % 128 with
  | 0 => ⟨S_, .f32⟩
  | 1 => ⟨S8x1x1x1x64, .f32⟩
  | 2 => ⟨S8x1x1x1x64, .f32⟩
  | 3 => ⟨S8x3x128x128x64, .f32⟩
  | 4 => ⟨S8x3x128x128x64, .i1⟩
  | 5 => ⟨S8x1x1x1x64, .f32⟩
  | 6 => ⟨S_, .f32⟩
  | 7 => ⟨S8x1x1x1x64, .f32⟩
  | 8 => ⟨S8x1x1x1x64, .i1⟩
  | 9 => ⟨S8x3x128x128x64, .i1⟩
  | 10 => ⟨S8x3x128x128x64, .i1⟩
  | 11 => ⟨S_, .i1⟩
  | 12 => ⟨S8x3x128x128, .i1⟩
  | 13 => ⟨S_, .f32⟩
  | 14 => ⟨S8x3x128x128, .f32⟩
  | 15 => ⟨S8x3x128x128, .i1⟩
  | 16 => ⟨S8x3x128x128, .i1⟩
  | 17 => ⟨S1x3x128x128, .i1⟩
  | 18 => ⟨S8x3x128x128, .i1⟩
  | 19 => ⟨S8x3x128x128, .i1⟩
  | 20 => ⟨S_, .f32⟩
  | 21 => ⟨S8x3x128x128, .f32⟩
  | 22 => ⟨S8x3x128x128, .i1⟩
  | 23 => ⟨S8x3x128x128, .i1⟩
  | 24 => ⟨S8x3x128x128, .i1⟩
  | 25 => ⟨S1x3x128x128, .i1⟩
  | 26 => ⟨S8x3x128x128, .i1⟩
  | 27 => ⟨S8x3x128x128, .i1⟩
  | 28 => ⟨S8x3x128x128, .f32⟩
  | 29 => ⟨S8x3x128x128, .i1⟩
  | 30 => ⟨S8x3x128x128, .f32⟩
  | 31 => ⟨S_, .f32⟩
  | 32 => ⟨S_, .f32⟩
  | 33 => ⟨S8x3x128x128, .f32⟩
  | 34 => ⟨S_, .f32⟩
  | 35 => ⟨S_, .f32⟩
  | 36 => ⟨S_, .f32⟩
  | 37 => ⟨S_, .f32⟩
  | 38 => ⟨S_, .f32⟩
  | 39 => ⟨S8x3x128x128x1, .i32⟩
  | 40 => ⟨S8x3x128x128x64, .i32⟩
  | 41 => ⟨S8x3x128x128x64, .i1⟩
  | 42 => ⟨S8x1x1x1x64, .f32⟩
  | 43 => ⟨S_, .f32⟩
  | 44 => ⟨S_, .f32⟩
  | 45 => ⟨S8x3x128x128x64, .f32⟩
  | 46 => ⟨S8x3x128x128x64, .f32⟩
  | 47 => ⟨S8x3x128x128x64, .f32⟩
  | 48 => ⟨S_, .f32⟩
  | 49 => ⟨S8x3x128x128, .f32⟩
  | 50 => ⟨S8x1x1x1x64, .f32⟩
  | 51 => ⟨S_, .f32⟩
  | 52 => ⟨S_, .f32⟩
  | 53 => ⟨S8x3x128x128x64, .f32⟩
  | 54 => ⟨S8x3x128x128x64, .f32⟩
  | 55 => ⟨S8x3x128x128x64, .f32⟩
  | 56 => ⟨S_, .f32⟩
  | 57 => ⟨S8x3x128x128, .f32⟩
  | 58 => ⟨S8x1x1x1x64, .f32⟩
  | 59 => ⟨S_, .f32⟩
  | 60 => ⟨S_, .f32⟩
  | 61 => ⟨S8x3x128x128x64, .f32⟩
  | 62 => ⟨S8x3x128x128x64, .f32⟩
  | 63 => ⟨S8x3x128x128x64, .f32⟩
  | 64 => ⟨S_, .f32⟩
  | 65 => ⟨S8x3x128x128, .f32⟩
  | 66 => ⟨S8x1x1x1x64, .f32⟩
  | 67 => ⟨S_, .f32⟩
  | 68 => ⟨S_, .f32⟩
  | 69 => ⟨S8x3x128x128x64, .f32⟩
  | 70 => ⟨S8x3x128x128x64, .f32⟩
  | 71 => ⟨S8x3x128x128x64, .f32⟩
  | 72 => ⟨S_, .f32⟩
  | 73 => ⟨S8x3x128x128, .f32⟩
  | 74 => ⟨S3x128x128, .f32⟩
  | 75 => ⟨S3x128x128, .f32⟩
  | 76 => ⟨S8x3x128x128, .f32⟩
  | 77 => ⟨S_, .f32⟩
  | 78 => ⟨S8x3x128x128, .f32⟩
  | 79 => ⟨S8x3x128x128, .f32⟩
  | 80 => ⟨S3x128x128, .f32⟩
  | 81 => ⟨S_, .f32⟩
  | 82 => ⟨S3x128x128, .f32⟩
  | 83 => ⟨S3x128x128, .f32⟩
  | 84 => ⟨S1x3x128x128, .f32⟩
  | 85 => ⟨S8x3x128x128, .f32⟩
  | 86 => ⟨S8x3x128x128, .f32⟩
  | 87 => ⟨S1x3x128x128, .f32⟩
  | 88 => ⟨S8x3x128x128, .f32⟩
  | 89 => ⟨S8x3x128x128, .f32⟩
  | 90 => ⟨S8x3x128x128, .f32⟩
  | 91 => ⟨S_, .f32⟩
  | 92 => ⟨S8x3x128x128, .f32⟩
  | 93 => ⟨S8x3x128x128, .f32⟩
  | 94 => ⟨S3x128x128, .f32⟩
  | 95 => ⟨S_, .f32⟩
  | 96 => ⟨S3x128x128, .f32⟩
  | 97 => ⟨S3x128x128, .f32⟩
  | 98 => ⟨S1x3x128x128, .f32⟩
  | 99 => ⟨S8x3x128x128, .f32⟩
  | 100 => ⟨S8x3x128x128, .f32⟩
  | 101 => ⟨S1x3x128x128, .f32⟩
  | 102 => ⟨S8x3x128x128, .f32⟩
  | 103 => ⟨S8x3x128x128, .f32⟩
  | 104 => ⟨S8x3x128x128, .f32⟩
  | 105 => ⟨S_, .f32⟩
  | 106 => ⟨S8x3x128x128, .f32⟩
  | 107 => ⟨S8x3x128x128, .f32⟩
  | 108 => ⟨S1x3x128x128, .f32⟩
  | 109 => ⟨S8x3x128x128, .f32⟩
  | 110 => ⟨S8x3x128x128, .f32⟩
  | 111 => ⟨S8x3x128x128, .f32⟩
  | 112 => ⟨S8x3x128x128, .f32⟩
  | 113 => ⟨S_, .f32⟩
  | 114 => ⟨S8x3x128x128, .f32⟩
  | 115 => ⟨S8x3x128x128, .f32⟩
  | 116 => ⟨S1x3x128x128, .f32⟩
  | 117 => ⟨S8x3x128x128, .f32⟩
  | 118 => ⟨S8x3x128x128, .f32⟩
  | 119 => ⟨S8x3x128x128, .f32⟩
  | 120 => ⟨S8x3x1x128x128, .f32⟩
  | 121 => ⟨S8x3x1x128x128, .f32⟩
  | 122 => ⟨S8x3x1x128x128, .f32⟩
  | 123 => ⟨S8x3x1x128x128, .f32⟩
  | 124 => ⟨S8x3x4x128x128, .f32⟩
  | 125 => ⟨S8x3x1x128x128, .f32⟩
  | 126 => ⟨S8x3x4x128x128, .f32⟩
  | 127 => ⟨S8x3x4x128x128, .f32⟩
  | _ => ⟨S8x3x128x128, .f32⟩

abbrev hbmTy0_2 (i : Nat) : BufTy := match i % 128 with
  | 0 => ⟨S_, .f32⟩
  | 1 => ⟨S8x3x128x128, .f32⟩
  | 2 => ⟨S8x3x128x128, .f32⟩
  | 3 => ⟨S8x3x128x128, .f32⟩
  | 4 => ⟨S8x3x128x128, .f32⟩
  | 5 => ⟨S8x3x128x128, .f32⟩
  | 6 => ⟨S8x3x128x128, .f32⟩
  | 7 => ⟨S8x3x128x128, .f32⟩
  | 8 => ⟨S8x3x128x128, .f32⟩
  | 9 => ⟨S8x3x128x128, .f32⟩
  | 10 => ⟨S8x3x128x128, .f32⟩
  | 11 => ⟨S_, .f32⟩
  | 12 => ⟨S_, .f32⟩
  | 13 => ⟨S_, .f32⟩
  | 14 => ⟨S8x3x4x128x128, .f32⟩
  | 15 => ⟨S8x3x4x128x128, .f32⟩
  | 16 => ⟨S8x3x4x128x128, .f32⟩
  | 17 => ⟨S8x3x1x128x128, .f32⟩
  | 18 => ⟨S8x3x4x128x128, .f32⟩
  | 19 => ⟨S8x3x4x128x128, .f32⟩
  | 20 => ⟨S_, .f32⟩
  | 21 => ⟨S_, .f32⟩
  | 22 => ⟨S_, .f32⟩
  | 23 => ⟨S1, .f32⟩
  | 24 => ⟨S1, .f32⟩
  | 25 => ⟨S2, .f32⟩
  | _ => ⟨S8x3x128x128, .f32⟩

abbrev hbmTy (i : Nat) : BufTy := match i / 128 with
  | 0 => hbmTy0_0 i
  | 1 => hbmTy0_1 i
  | 2 => hbmTy0_2 i
  | _ => ⟨S8x3x128x128, .f32⟩

abbrev bufTy : (tb : Table) → Fin (tcTables nBuf tb) → BufTy
  | .hbm, ⟨i, _⟩ => hbmTy i
  | _, _ => ⟨S8x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_16 : Ref sig .tc := ⟨.hbm, 119, rfl⟩
abbrev main_call2_v0 : Ref sig .tc := ⟨.hbm, 120, rfl⟩
abbrev main_call2_v1 : Ref sig .tc := ⟨.hbm, 121, rfl⟩
abbrev main_v95 : Ref sig .tc := ⟨.hbm, 122, rfl⟩
abbrev main_c_17 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_20 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_21 : Ref sig .tc := ⟨.hbm, 139, rfl⟩
abbrev main_v108 : Ref sig .tc := ⟨.hbm, 140, rfl⟩
abbrev main_cst_22 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_24 : Ref sig .tc := ⟨.hbm, 159, rfl⟩
abbrev main_v125 : Ref sig .tc := ⟨.hbm, 160, rfl⟩
abbrev main_v126 : Ref sig .tc := ⟨.hbm, 161, rfl⟩
abbrev main_cst_25 : Ref sig .tc := ⟨.hbm, 162, rfl⟩
abbrev main_v127 : Ref sig .tc := ⟨.hbm, 163, rfl⟩
abbrev main_v128 : Ref sig .tc := ⟨.hbm, 164, rfl⟩
abbrev main_cst_26 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_27 : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_v134 : Ref sig .tc := ⟨.hbm, 175, rfl⟩
abbrev main_cst_28 : Ref sig .tc := ⟨.hbm, 176, rfl⟩
abbrev main_v135 : Ref sig .tc := ⟨.hbm, 177, rfl⟩
abbrev main_v136 : Ref sig .tc := ⟨.hbm, 178, rfl⟩
abbrev main_cst_29 : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_v137 : Ref sig .tc := ⟨.hbm, 183, rfl⟩
abbrev main_cst_30 : Ref sig .tc := ⟨.hbm, 184, rfl⟩
abbrev main_v138 : Ref sig .tc := ⟨.hbm, 185, rfl⟩
abbrev main_v139 : Ref sig .tc := ⟨.hbm, 186, rfl⟩
abbrev main_cst_31 : Ref sig .tc := ⟨.hbm, 187, rfl⟩
abbrev main_call5_v0 : Ref sig .tc := ⟨.hbm, 188, rfl⟩
abbrev main_call5_v1 : Ref sig .tc := ⟨.hbm, 189, rfl⟩
abbrev main_call5_v2 : Ref sig .tc := ⟨.hbm, 190, rfl⟩
abbrev main_v140 : Ref sig .tc := ⟨.hbm, 191, rfl⟩
abbrev main_cst_32 : Ref sig .tc := ⟨.hbm, 192, rfl⟩
abbrev main_v141 : Ref sig .tc := ⟨.hbm, 193, rfl⟩
abbrev main_v142 : Ref sig .tc := ⟨.hbm, 194, rfl⟩
abbrev main_cst_33 : Ref sig .tc := ⟨.hbm, 195, rfl⟩
abbrev main_call6_v0 : Ref sig .tc := ⟨.hbm, 196, rfl⟩
abbrev main_call6_v1 : Ref sig .tc := ⟨.hbm, 197, rfl⟩
abbrev main_call6_v2 : Ref sig .tc := ⟨.hbm, 198, rfl⟩
abbrev main_v143 : Ref sig .tc := ⟨.hbm, 199, rfl⟩
abbrev main_cst_34 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_35 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_36 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_cst_37 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_38 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_cst_39 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_cst_40 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_cst_41 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_cst_42 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_43 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩

abbrev nD : Nat := 1
abbrev τ : Topo := Topo.v7x

variable {F : FTy → Type} [FloatOps F]
-- ==== Proof.Frames.lean ====
/- The four frames and the named constants: every execution ends, leaves the arguments unchanged and every
   semaphore counter at zero, and each constant that the idealized kernel reads by name is the real it was
   rounded from. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel on bit patterns keeps its arguments and its counters. -/
theorem kernel_frame : Cert.quiescent_Kernel (hKernel := Cert.Kernel.Gen.facts) :=
  fun m ρ _ => Cert.Kernel.Gen.frame m ρ

/-- The kernel over the extended reals keeps its arguments and its counters. -/
theorem ideal_frame : Cert.quiescent_KernelIdeal (hKernelIdeal := Cert.KernelIdeal.Gen.facts) :=
  fun m ρ _ => Cert.KernelIdeal.Gen.frame m ρ

/-- The reference on bit patterns keeps its arguments; it has no semaphore. -/
theorem word_reference_frame : Cert.quiescent_Reference (hReference := Cert.Reference.Gen.facts) := by
  intro m ρ _
  exact (θ_run Cert.Reference.defs _ _).mono
    (fun r h => ⟨fun c => (h c).2, sem_eq_zero_of_no_sems (by decide) r.2⟩)
    (Cert.Reference.Value.run (F := Bits) m ρ)

/-- The reference over the extended reals keeps its arguments; it has no semaphore. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The five named constants. -/
theorem named_constants : Cert.preserves_Kernel_KernelIdeal :=
  ⟨IdealRules.named_const.statement Cert.KernelIdeal.κ "third" .f32 0x3EAAAAAB#32 ((1 / 3 : ℝ) : EReal) rfl,
    IdealRules.named_const.statement Cert.KernelIdeal.κ "neg_threshold" .f32 0x3E924925#32 ((13421773 / 46976205 : ℝ) : EReal) rfl,
    IdealRules.named_const.statement Cert.KernelIdeal.κ "log_32" .f32 0x405DCE9E#32 ((Real.log 32 : ℝ) : EReal) rfl,
    IdealRules.named_const.statement Cert.KernelIdeal.κ "log_64" .f32 0x40851592#32 ((Real.log 64 : ℝ) : EReal) rfl,
    IdealRules.named_const.statement Cert.KernelIdeal.κ "log_128" .f32 0x409B43D5#32 ((Real.log 128 : ℝ) : EReal) rfl⟩

end Cert.Proof

end
-- ==== Proof.Tile.lean ====
module

public import proofs.«01_k».proof.Proof.Gen.KernelIdeal

/-!
What the kernel's body does to one tile of thirty-two rows of one anchor size, in the body's own vector operations. The
body repeats this for three sizes and four tiles; here it is said once.
-/

@[expose] public section

namespace Cert.KernelTile

open Idealize.ShloMosaic Cert.KernelIdeal Cert.KernelIdeal.Gen

/-- A tile, a row of a slab, a slab of eight boxes. -/
abbrev Tile := FVec Ideal S32x128 .f32
abbrev Row := FVec Ideal S1x128 .f32
abbrev Slab := FVec Ideal S8x128 .f32

theorem slices_row (j : Fin 8) : S8x128.Slices ![j.val, 0] S1x128 := by revert j; decide
theorem slices_col (g : Fin 64) : S32x128.Slices ![0, g.val] S32x1 := by revert g; decide

/-- Row `j` of a slab. -/
def row (v : Slab) (j : Fin 8) : Row := extractStridedSlice S1x128 ![j.val, 0] v (slices_row j)

/-- A row of a slab spread over the tile. -/
def spread (v : Slab) (j : Fin 8) : Tile :=
  broadcastTo S32x128 (shapeCast S1x128 (row v j) shapeCasts_S1x128_S1x128) broadcasts_S1x128_S32x128

/-- The slab, its row and the column of box number `n`. -/
def slabOf (n : ℕ) : Fin 8 := ⟨n / 8 % 8, Nat.mod_lt _ (by norm_num)⟩
def rowOf (n : ℕ) : Fin 8 := ⟨n % 8, Nat.mod_lt _ (by norm_num)⟩
def colOf (n : ℕ) : Fin 64 := ⟨n % 64, Nat.mod_lt _ (by norm_num)⟩

section Loop
variable (wy : Tile) (rows thr v : Fin 8 → Slab)

/-- The share of box number `n`. -/
noncomputable def shareAt (n : ℕ) : Tile :=
  mulf (broadcastTo S32x128 (extractStridedSlice S32x1 ![0, (colOf n).val] wy (slices_col (colOf n))) broadcasts_S32x1_S32x128)
    (broadcastTo S32x128 (row (rows (slabOf n)) (rowOf n)) broadcasts_S1x128_S32x128)

/-- The greatest share of the first `n` boxes. -/
noncomputable def mAt (n : ℕ) : Tile :=
  Nat.rec (motive := fun _ => Tile) (broadcast S32x128 (Scalar.ofBits .f32 0xBF800000#32)) (fun k t => maximumf t (shareAt wy rows k)) n

/-- The greatest margin over the threshold. -/
noncomputable def pmAt (n : ℕ) : Tile :=
  Nat.rec (motive := fun _ => Tile) (broadcast S32x128 (Scalar.ofBits .f32 0xC0000000#32))
    (fun k t => maximumf t (subf (shareAt wy rows k) (broadcastTo S32x128 (row (thr (slabOf k)) (rowOf k)) broadcasts_S1x128_S32x128))) n

/-- The number of `v` at the box that set the greatest share. -/
noncomputable def pickAt (n : ℕ) : Tile :=
  Nat.rec (motive := fun _ => Tile) (broadcast S32x128 (Scalar.ofBits .f32 0x00000000#32))
    (fun k t => select (cmpf .ogt (shareAt wy rows k) (mAt wy rows k)) (spread (v (slabOf k)) (rowOf k)) t) n

end Loop

theorem slices_rows (ti : Fin 4) : S128x1.Slices ![32 * ti.val, 0] S32x1 := by revert ti; decide

section Sums
variable (h far w lw : EReal) (ti : Fin 4) (cx : Row) (cy : FVec Ideal S128x1 .f32) (m pm a b c d : Tile)

/-- The centres of the tile's rows. -/
def rowsOf : FVec Ideal S32x1 .f32 := extractStridedSlice S32x1 ![32 * ti.val, 0] cy (slices_rows ti)

noncomputable def inside : IVec S32x128 1 :=
  andi (broadcastTo S32x128 (andi (cmpf .oge cx (broadcast S1x128 h)) (cmpf .ole cx (broadcast S1x128 far))) broadcasts_S1x128_S32x128)
    (broadcastTo S32x128 (andi (cmpf .oge (rowsOf ti cy) (broadcast S32x1 h)) (cmpf .ole (rowsOf ti cy) (broadcast S32x1 far)))
      broadcasts_S32x1_S32x128)

noncomputable def pos : IVec S32x128 1 :=
  andi (cmpf .oge pm (broadcast S32x128 (Scalar.ofBits .f32 0x00000000#32))) (inside h far ti cx cy)

noncomputable def neg : IVec S32x128 1 :=
  andi (andi (cmpf .olt m (broadcast S32x128 (Named.named κ "neg_threshold" 0x3E924925#32))) (xori (pos h far ti cx cy pm) (constantI S32x128 1 1#1)))
    (inside h far ti cx cy)

noncomputable def posf : Tile := sitofp .f32 (extui 32 (pos h far ti cx cy pm) natLt_1_32)
noncomputable def weight : Tile := addf (posf h far ti cx cy pm) (sitofp .f32 (extui 32 (neg h far ti cx cy m pm) natLt_1_32))

/-- A tile's sum. -/
noncomputable def total (v : Tile) : EReal :=
  extractAt (s := S1x1x1) ![0, 0, 0] (shapeCast S1x1x1 (multiReduction (F := Ideal) (φ := .f32) .add [1, 2] S1 (shapeCast S1x32x128 v shapeCasts_S32x128_S1x32x128) 0x00000000#32 reduces_S1x32x128_S1 (.inl rfl) rfl) shapeCasts_S1_S1x1x1) inpos_S1x1x1_p0_0_0

/-- The classification terms, from the tile of class outputs. -/
noncomputable def clsV (cls : FVec Ideal S1x1x32x128 .f32) : Tile :=
  mulf (addf (subf (maximumf (shapeCast S32x128 cls shapeCasts_S1x1x32x128_S32x128) (broadcast S32x128 (Scalar.ofBits .f32 0x00000000#32)))
      (mulf (shapeCast S32x128 cls shapeCasts_S1x1x32x128_S32x128) (posf h far ti cx cy pm)))
    (log1p (exp (subf (broadcast S32x128 (Scalar.ofBits .f32 0x00000000#32)) (absf (shapeCast S32x128 cls shapeCasts_S1x1x32x128_S32x128))))))
    (weight h far ti cx cy m pm)

theorem slices_part (k : Fin 4) : S4x32x128.Slices ![k.val, 0, 0] S1x32x128 := by revert k; decide

/-- The distance of offset number `k` from `e`. -/
noncomputable def distV (reg : FVec Ideal S1x4x32x128 .f32) (k : Fin 4) (e : Tile) : Tile :=
  absf (subf (shapeCast S32x128 (extractStridedSlice S1x32x128 ![k.val, 0, 0] (shapeCast S4x32x128 reg shapeCasts_S1x4x32x128_S4x32x128) (slices_part k))
    shapeCasts_S1x32x128_S32x128) e)

/-- The offset terms, from the tile of offset outputs. -/
noncomputable def boxV (reg : FVec Ideal S1x4x32x128 .f32) : Tile :=
  mulf (addf (addf (addf
    (distV reg 0 (divf (subf a (broadcastTo S32x128 cx broadcasts_S1x128_S32x128)) (broadcast S32x128 w)))
    (distV reg 1 (divf (subf b (broadcastTo S32x128 (rowsOf ti cy) broadcasts_S32x1_S32x128)) (broadcast S32x128 w))))
    (distV reg 2 (subf c (broadcast S32x128 lw))))
    (distV reg 3 (subf d (broadcast S32x128 lw)))) (posf h far ti cx cy pm)

end Sums

/-- The result row: the three sums in the first three lanes. -/
noncomputable def lanes (cls box num : EReal) : Row :=
  addf (addf
    (select (cmpi .eq (iota .tc S1x128 32 [1] iota_S1x128_d1_w32) (broadcast S1x128 0#32)) (broadcast S1x128 cls) (broadcast S1x128 (Scalar.ofBits (F := Ideal) .f32 0x00000000#32)))
    (select (cmpi .eq (iota .tc S1x128 32 [1] iota_S1x128_d1_w32) (broadcast S1x128 1#32)) (broadcast S1x128 box) (broadcast S1x128 (Scalar.ofBits (F := Ideal) .f32 0x00000000#32))))
    (select (cmpi .eq (iota .tc S1x128 32 [1] iota_S1x128_d1_w32) (broadcast S1x128 2#32)) (broadcast S1x128 num) (broadcast S1x128 (Scalar.ofBits (F := Ideal) .f32 0x00000000#32)))

section Reads
variable (wyL : Fin 3 → Fin 4 → FVec Ideal S1x32x128 .f32) (wqL : Fin 3 → Fin 8 → FVec Ideal S1x8x128 .f32)
  (scL : Fin 5 → Fin 8 → FVec Ideal S1x8x128 .f32) (clsL : Fin 3 → Fin 4 → FVec Ideal S1x1x32x128 .f32)
  (regL : Fin 3 → Fin 4 → FVec Ideal S1x4x32x128 .f32)
  (h far w lw : EReal) (cx : Row) (cy : FVec Ideal S128x1 .f32) (s : Fin 3) (ti : Fin 4) (r : EReal)

def wyT : Tile := shapeCast S32x128 (wyL s ti) shapeCasts_S1x32x128_S32x128
def rowsL (g : Fin 8) : Slab := shapeCast S8x128 (wqL s g) shapeCasts_S1x8x128_S8x128
def scS (k : Fin 5) (g : Fin 8) : Slab := shapeCast S8x128 (scL k g) shapeCasts_S1x8x128_S8x128

noncomputable def mF : Tile := mAt (wyT wyL s ti) (rowsL wqL s) 64
noncomputable def pmF : Tile := pmAt (wyT wyL s ti) (rowsL wqL s) (scS scL 0) 64
noncomputable def pickF (k : Fin 5) : Tile := pickAt (wyT wyL s ti) (rowsL wqL s) (scS scL k) 64

/-- One tile's contribution to each of the three sums. -/
noncomputable def clsAdd : EReal :=
  Scalar.addf (F := Ideal) (φ := .f32) r (total (clsV h far ti cx cy (mF wyL wqL s ti) (pmF wyL wqL scL s ti) (clsL s ti)))
noncomputable def boxAdd : EReal :=
  Scalar.addf (F := Ideal) (φ := .f32) r (total (boxV h far w lw ti cx cy (pmF wyL wqL scL s ti) (pickF wyL wqL scL s ti 1) (pickF wyL wqL scL s ti 2)
    (pickF wyL wqL scL s ti 3) (pickF wyL wqL scL s ti 4) (regL s ti)))
noncomputable def numAdd : EReal :=
  Scalar.addf (F := Ideal) (φ := .f32) r (total (weight h far ti cx cy (mF wyL wqL s ti) (pmF wyL wqL scL s ti)))

/-- The four tiles of one size. -/
noncomputable def clsSize : EReal :=
  clsAdd wyL wqL scL clsL h far cx cy s 3 (clsAdd wyL wqL scL clsL h far cx cy s 2 (clsAdd wyL wqL scL clsL h far cx cy s 1
    (clsAdd wyL wqL scL clsL h far cx cy s 0 r)))
noncomputable def boxSize : EReal :=
  boxAdd wyL wqL scL regL h far w lw cx cy s 3 (boxAdd wyL wqL scL regL h far w lw cx cy s 2 (boxAdd wyL wqL scL regL h far w lw cx cy s 1
    (boxAdd wyL wqL scL regL h far w lw cx cy s 0 r)))
noncomputable def numSize : EReal :=
  numAdd wyL wqL scL h far cx cy s 3 (numAdd wyL wqL scL h far cx cy s 2 (numAdd wyL wqL scL h far cx cy s 1
    (numAdd wyL wqL scL h far cx cy s 0 r)))

/-- The three sums of a picture. -/
noncomputable def clsAll : EReal :=
  clsSize wyL wqL scL clsL (Scalar.ofBits (F := Ideal) .f32 0x42800000#32) (Scalar.ofBits (F := Ideal) .f32 0x43E00000#32) cx cy 2
  (clsSize wyL wqL scL clsL (Scalar.ofBits (F := Ideal) .f32 0x42000000#32) (Scalar.ofBits (F := Ideal) .f32 0x43F00000#32) cx cy 1
  (clsSize wyL wqL scL clsL (Scalar.ofBits (F := Ideal) .f32 0x41800000#32) (Scalar.ofBits (F := Ideal) .f32 0x43F80000#32) cx cy 0
    (Scalar.ofBits (F := Ideal) .f32 0x00000000#32)))
noncomputable def boxAll : EReal :=
  boxSize wyL wqL scL regL (Scalar.ofBits (F := Ideal) .f32 0x42800000#32) (Scalar.ofBits (F := Ideal) .f32 0x43E00000#32)
    (Scalar.ofBits (F := Ideal) .f32 0x43000000#32) (Named.named (F := Ideal) (φ := .f32) κ "log_128" 0x409B43D5#32) cx cy 2
  (boxSize wyL wqL scL regL (Scalar.ofBits (F := Ideal) .f32 0x42000000#32) (Scalar.ofBits (F := Ideal) .f32 0x43F00000#32)
    (Scalar.ofBits (F := Ideal) .f32 0x42800000#32) (Named.named (F := Ideal) (φ := .f32) κ "log_64" 0x40851592#32) cx cy 1
  (boxSize wyL wqL scL regL (Scalar.ofBits (F := Ideal) .f32 0x41800000#32) (Scalar.ofBits (F := Ideal) .f32 0x43F80000#32)
    (Scalar.ofBits (F := Ideal) .f32 0x42000000#32) (Named.named (F := Ideal) (φ := .f32) κ "log_32" 0x405DCE9E#32) cx cy 0
    (Scalar.ofBits (F := Ideal) .f32 0x00000000#32)))
noncomputable def numAll : EReal :=
  numSize wyL wqL scL (Scalar.ofBits (F := Ideal) .f32 0x42800000#32) (Scalar.ofBits (F := Ideal) .f32 0x43E00000#32) cx cy 2
  (numSize wyL wqL scL (Scalar.ofBits (F := Ideal) .f32 0x42000000#32) (Scalar.ofBits (F := Ideal) .f32 0x43F00000#32) cx cy 1
  (numSize wyL wqL scL (Scalar.ofBits (F := Ideal) .f32 0x41800000#32) (Scalar.ofBits (F := Ideal) .f32 0x43F80000#32) cx cy 0
    (Scalar.ofBits (F := Ideal) .f32 0x00000000#32)))

end Reads

end Cert.KernelTile
-- ==== Proof.Loads.lean ====
module

public import proofs.«01_k».proof.Proof.Gen.KernelIdeal.Frame
public import proofs.«01_k».proof.Proof.Tile

/-!
The tiles' loads in the run of the body: slabs of the three scratch arrays, and tiles of the two blocks of outputs.
-/

@[expose] public section

namespace Cert.KernelBlock

open Idealize.ShloMosaic Cert.KernelIdeal Cert.KernelIdeal.Gen Cert.KernelTile

theorem inb_wy (s : Fin 3) (ti : Fin 4) : ∀ a, (![s.val, 32 * ti.val, 0] : Fin 3 → Nat) a + S1x32x128.size a ≤ S3x128x128.size a := by
  revert s ti; decide
theorem inb_wq (s : Fin 3) (g : Fin 8) : ∀ a, (![s.val, 8 * g.val, 0] : Fin 3 → Nat) a + S1x8x128.size a ≤ S3x64x128.size a := by
  revert s g; decide
theorem inb_sc (k : Fin 5) (g : Fin 8) : ∀ a, (![k.val, 8 * g.val, 0] : Fin 3 → Nat) a + S1x8x128.size a ≤ S5x64x128.size a := by
  revert k g; decide
theorem inb_cls (s : Fin 3) (ti : Fin 4) : ∀ a, (![0, s.val, 32 * ti.val, 0] : Fin 4 → Nat) a + S1x1x32x128.size a ≤ S1x3x128x128.size a := by
  revert s ti; decide
theorem inb_reg (s : Fin 3) (ti : Fin 4) : ∀ a, (![0, 4 * s.val, 32 * ti.val, 0] : Fin 4 → Nat) a + S1x4x32x128.size a ≤ S1x12x128x128.size a := by
  revert s ti; decide

section
variable (c : Dev nD) (arg1 : Memref sig .tc .vmem S1x3x128x128 .f32) (harg1 : arg1.IsWhole)
  (arg2 : Memref sig .tc .vmem S1x12x128x128 .f32) (harg2 : arg2.IsWhole) (arg3 : Memref sig .tc .vmem S1x64x4 .f32) (harg3 : arg3.IsWhole)
  (arg4 : Memref sig .tc .vmem S1x8x128 .f32) (harg4 : arg4.IsWhole) (arg6 : Memref sig .tc .vmem S3x64x128 .f32)
  (arg7 : Memref sig .tc .vmem S3x128x128 .f32) (arg8 : Memref sig .tc .vmem S5x64x128 .f32)
  (x0 : Vec Ideal S1x3x128x128 .f32) (x1 : Vec Ideal S1x12x128x128 .f32) (x2 : Vec Ideal S1x64x4 .f32) (x3 : Vec Ideal S1x8x128 .f32)

/-- What the tiles of one block read: the overlaps along the rows, the weighted overlaps along the columns, the encoded
    boxes, the class outputs and the offset outputs. -/
noncomputable def ldWy (s : Fin 3) (ti : Fin 4) : FVec Ideal S1x32x128 .f32 :=
  arg7.view.readCov (kernelRun0_A.sl.HS1_3 c arg4 harg4 x3) (Rect.unit (s := S3x128x128) ![s.val, 32 * ti.val, 0] S1x32x128.size (inb_wy s ti)).toLoadRect
noncomputable def ldWq (s : Fin 3) (g : Fin 8) : FVec Ideal S1x8x128 .f32 :=
  arg6.view.readCov (kernelRun0_A.sl.HS0_3 c arg3 harg3 x2) (Rect.unit (s := S3x64x128) ![s.val, 8 * g.val, 0] S1x8x128.size (inb_wq s g)).toLoadRect
noncomputable def ldSc (k : Fin 5) (g : Fin 8) : FVec Ideal S1x8x128 .f32 :=
  arg8.view.readCov (kernelRun0_A.sl.HS2_5 c arg3 harg3 x2) (Rect.unit (s := S5x64x128) ![k.val, 8 * g.val, 0] S1x8x128.size (inb_sc k g)).toLoadRect
noncomputable def ldCls (s : Fin 3) (ti : Fin 4) : FVec Ideal S1x1x32x128 .f32 :=
  View.readAt (Elt Ideal) arg1.view (Rect.unit (s := S1x3x128x128) ![0, s.val, 32 * ti.val, 0] S1x1x32x128.size (inb_cls s ti)).toLoadRect (harg1.unread x0)
noncomputable def ldReg (s : Fin 3) (ti : Fin 4) : FVec Ideal S1x4x32x128 .f32 :=
  View.readAt (Elt Ideal) arg2.view (Rect.unit (s := S1x12x128x128) ![0, 4 * s.val, 32 * ti.val, 0] S1x4x32x128.size (inb_reg s ti)).toLoadRect (harg2.unread x1)

end
end Cert.KernelBlock
-- ==== Proof.Prep.lean ====
module

public import proofs.«01_k».proof.Proof.Gen.KernelIdeal

/-!
What the kernel's body prepares before its loop over the boxes, in the body's own vector operations: the overlaps along
the columns and the rows, the thresholds, the encoded boxes. `tb` holds the boxes row by row, `tr` their transpose.
-/

@[expose] public section

namespace Cert.KernelPrep

open Idealize.ShloMosaic Cert.KernelIdeal Cert.KernelIdeal.Gen

abbrev Col := FVec Ideal S64x1 .f32
abbrev Mat := FVec Ideal S64x128 .f32

/-- The centres of the columns, and of the rows. -/
noncomputable def cxV : FVec Ideal S1x128 .f32 :=
  mulf (addf (sitofp .f32 (iota .tc S1x128 32 [1] iota_S1x128_d1_w32)) (broadcast S1x128 (Scalar.ofBits (F := Ideal) .f32 0x3F000000#32)))
    (broadcast S1x128 (Scalar.ofBits (F := Ideal) .f32 0x40800000#32))
noncomputable def cyV : FVec Ideal S128x1 .f32 :=
  mulf (addf (sitofp .f32 (iota .tc S128x1 32 [0] iota_S128x1_d0_w32)) (broadcast S128x1 (Scalar.ofBits (F := Ideal) .f32 0x3F000000#32)))
    (broadcast S128x1 (Scalar.ofBits (F := Ideal) .f32 0x40800000#32))

section
variable (tb : FVec Ideal S64x4 .f32) (tr : FVec Ideal S8x128 .f32) (h hh : EReal) (lo hi : Col)

def g0 : Col := extractStridedSlice S64x1 ![0, 0] tb slices_S64x4_o0_0_S64x1
def g1 : Col := extractStridedSlice S64x1 ![0, 1] tb slices_S64x4_o0_1_S64x1
def g2 : Col := extractStridedSlice S64x1 ![0, 2] tb slices_S64x4_o0_2_S64x1
def g3 : Col := extractStridedSlice S64x1 ![0, 3] tb slices_S64x4_o0_3_S64x1

/-- A column spread over the lanes. -/
def lanes (v : Col) : Mat := broadcastTo S64x128 v broadcasts_S64x1_S64x128

/-- The overlap of the grid's intervals with the boxes' intervals. -/
noncomputable def ovV : Mat :=
  maximumf (broadcast S64x128 (Scalar.ofBits .f32 0x00000000#32))
    (subf (minimumf (broadcastTo S64x128 (addf cxV (broadcast S1x128 h)) broadcasts_S1x128_S64x128) (lanes hi))
      (maximumf (broadcastTo S64x128 (subf cxV (broadcast S1x128 h)) broadcasts_S1x128_S64x128) (lanes lo)))

/-- The two areas together. -/
noncomputable def areaV : Col := addf (mulf (subf (g2 tb) (g0 tb)) (subf (g3 tb) (g1 tb))) (broadcast S64x1 hh)

/-- The weighted overlaps along the columns. -/
noncomputable def wqV : FVec Ideal S1x64x128 .f32 :=
  shapeCast S1x64x128 (mulf (ovV h (g0 tb) (g2 tb)) (lanes (divf (broadcast S64x1 (Scalar.ofBits .f32 0x3F800000#32)) (areaV tb hh))))
    shapeCasts_S64x128_S1x64x128

/-- The overlaps along the rows, a box to a lane. -/
noncomputable def wyV : FVec Ideal S1x128x128 .f32 :=
  shapeCast S1x128x128 (maximumf (broadcast S128x128 (Scalar.ofBits .f32 0x00000000#32))
    (subf (minimumf (broadcastTo S128x128 (addf cyV (broadcast S128x1 h)) broadcasts_S128x1_S128x128)
        (broadcastTo S128x128 (extractStridedSlice S1x128 ![3, 0] tr slices_S8x128_o3_0_S1x128) broadcasts_S1x128_S128x128))
      (maximumf (broadcastTo S128x128 (subf cyV (broadcast S128x1 h)) broadcasts_S128x1_S128x128)
        (broadcastTo S128x128 (extractStridedSlice S1x128 ![1, 0] tr slices_S8x128_o1_0_S1x128) broadcasts_S1x128_S128x128))))
    shapeCasts_S128x128_S1x128x128

/-- The greatest of every row. -/
noncomputable def topV (v : Mat) : Col :=
  shapeCast S64x1 (multiReduction (F := Ideal) (φ := .f32) .maximumf [1] S64 v 0xFF800000#32 reduces_S64x128_S64 (.inl rfl) rfl) shapeCasts_S64_S64x1

noncomputable def interV : Col := mulf (topV (ovV h (g0 tb) (g2 tb))) (topV (ovV h (g1 tb) (g3 tb)))

/-- The best ratio of every box at one size. -/
noncomputable def iouV : Col :=
  divf (interV tb h) (maximumf (subf (areaV tb hh) (interV tb h)) (broadcast S64x1 (Scalar.ofBits .f32 0x358637BD#32)))

/-- The best ratio of every box. -/
noncomputable def bestV : Col :=
  maximumf (maximumf (maximumf (broadcast S64x1 (Scalar.ofBits .f32 0xBF800000#32))
    (iouV tb (Scalar.ofBits (F := Ideal) .f32 0x41800000#32) (Scalar.ofBits (F := Ideal) .f32 0x44800000#32)))
    (iouV tb (Scalar.ofBits (F := Ideal) .f32 0x42000000#32) (Scalar.ofBits (F := Ideal) .f32 0x45800000#32)))
    (iouV tb (Scalar.ofBits (F := Ideal) .f32 0x42800000#32) (Scalar.ofBits (F := Ideal) .f32 0x46800000#32))

noncomputable def lessV : Col := subf (bestV tb) (broadcast S64x1 (Scalar.ofBits .f32 0x3A83126F#32))

/-- The threshold of every box. -/
noncomputable def thrV : Col :=
  minimumf (select (cmpf .ogt (bestV tb) (broadcast S64x1 (Scalar.ofBits (F := Ideal) .f32 0x3A83126F#32)))
      (divf (lessV tb) (addf (broadcast S64x1 (Scalar.ofBits (F := Ideal) .f32 0x3F800000#32)) (lessV tb)))
      (broadcast S64x1 (Scalar.ofBits (F := Ideal) .f32 0x40000000#32)))
    (broadcast S64x1 (Named.named κ "third" 0x3EAAAAAB#32))

/-- A column stored over the lanes. -/
noncomputable def store (v : Col) : FVec Ideal S1x64x128 .f32 :=
  shapeCast S1x64x128 (mulf (lanes v) (broadcastTo S64x128 (broadcast S1x128 (Scalar.ofBits (F := Ideal) .f32 0x3F800000#32)) broadcasts_S1x128_S64x128))
    shapeCasts_S64x128_S1x64x128

/-- The middle, and the logarithm of the length. -/
noncomputable def midV : Col := mulf (addf lo hi) (broadcast S64x1 (Scalar.ofBits .f32 0x3F000000#32))
noncomputable def logV : Col := log (maximumf (subf hi lo) (broadcast S64x1 (Scalar.ofBits .f32 0x358637BD#32)))

end

end Cert.KernelPrep
-- ==== Proof.Stores.lean ====
module

public import proofs.«01_k».proof.Proof.Gen.KernelIdeal.Frame
public import proofs.«01_k».proof.Proof.Loads
public import proofs.«01_k».proof.Proof.Prep

/-!
The run of the body in the words of `Prep` and `Tile`: what it leaves in the scratch arrays and in the result's block.
-/

@[expose] public section

namespace Cert.KernelBlock

open Idealize.ShloMosaic Cert.KernelIdeal Cert.KernelIdeal.Gen Cert.KernelTile Cert.KernelPrep

theorem cx_eq : kernelRun0_A.sl.v15 (F := Ideal) = cxV := by eq_refl
theorem cy_eq : kernelRun0_A.sl.v21 (F := Ideal) = cyV := by eq_refl

theorem wq_stores : kernelRun0_A.sl.HS0_3 (F := Ideal) = fun c arg3 harg3 x2 => [
    ⟨Rect.unit (s := S3x64x128) ![2, 0, 0] S1x64x128.size inb_S3x64x128_S1x64x128_2_0_0,
      wqV (kernelRun0_A.sl.v1 c arg3 harg3 x2) (Scalar.ofBits (F := Ideal) .f32 0x42800000#32) (Scalar.ofBits (F := Ideal) .f32 0x46800000#32)⟩,
    ⟨Rect.unit (s := S3x64x128) ![1, 0, 0] S1x64x128.size inb_S3x64x128_S1x64x128_1_0_0,
      wqV (kernelRun0_A.sl.v1 c arg3 harg3 x2) (Scalar.ofBits (F := Ideal) .f32 0x42000000#32) (Scalar.ofBits (F := Ideal) .f32 0x45800000#32)⟩,
    ⟨Rect.unit (s := S3x64x128) ![0, 0, 0] S1x64x128.size inb_S3x64x128_S1x64x128_0_0_0,
      wqV (kernelRun0_A.sl.v1 c arg3 harg3 x2) (Scalar.ofBits (F := Ideal) .f32 0x41800000#32) (Scalar.ofBits (F := Ideal) .f32 0x44800000#32)⟩] := by
  eq_refl

theorem wy_stores : kernelRun0_A.sl.HS1_3 (F := Ideal) = fun c arg4 harg4 x3 => [
    ⟨Rect.unit (s := S3x128x128) ![2, 0, 0] S1x128x128.size inb_S3x128x128_S1x128x128_2_0_0,
      wyV (kernelRun0_A.sl.v7 c arg4 harg4 x3) (Scalar.ofBits (F := Ideal) .f32 0x42800000#32)⟩,
    ⟨Rect.unit (s := S3x128x128) ![1, 0, 0] S1x128x128.size inb_S3x128x128_S1x128x128_1_0_0,
      wyV (kernelRun0_A.sl.v7 c arg4 harg4 x3) (Scalar.ofBits (F := Ideal) .f32 0x42000000#32)⟩,
    ⟨Rect.unit (s := S3x128x128) ![0, 0, 0] S1x128x128.size inb_S3x128x128_S1x128x128_0_0_0,
      wyV (kernelRun0_A.sl.v7 c arg4 harg4 x3) (Scalar.ofBits (F := Ideal) .f32 0x41800000#32)⟩] := by
  eq_refl

theorem sc_stores : kernelRun0_A.sl.HS2_5 (F := Ideal) = fun c arg3 harg3 x2 => [
    ⟨Rect.unit (s := S5x64x128) ![4, 0, 0] S1x64x128.size inb_S5x64x128_S1x64x128_4_0_0,
      store (logV (g1 (kernelRun0_A.sl.v1 c arg3 harg3 x2)) (g3 (kernelRun0_A.sl.v1 c arg3 harg3 x2)))⟩,
    ⟨Rect.unit (s := S5x64x128) ![3, 0, 0] S1x64x128.size inb_S5x64x128_S1x64x128_3_0_0,
      store (logV (g0 (kernelRun0_A.sl.v1 c arg3 harg3 x2)) (g2 (kernelRun0_A.sl.v1 c arg3 harg3 x2)))⟩,
    ⟨Rect.unit (s := S5x64x128) ![2, 0, 0] S1x64x128.size inb_S5x64x128_S1x64x128_2_0_0,
      store (midV (g1 (kernelRun0_A.sl.v1 c arg3 harg3 x2)) (g3 (kernelRun0_A.sl.v1 c arg3 harg3 x2)))⟩,
    ⟨Rect.unit (s := S5x64x128) ![1, 0, 0] S1x64x128.size inb_S5x64x128_S1x64x128_1_0_0,
      store (midV (g0 (kernelRun0_A.sl.v1 c arg3 harg3 x2)) (g2 (kernelRun0_A.sl.v1 c arg3 harg3 x2)))⟩,
    ⟨Rect.unit (s := S5x64x128) ![0, 0, 0] S1x64x128.size inb_S5x64x128_S1x64x128_0_0_0,
      store (thrV (kernelRun0_A.sl.v1 c arg3 harg3 x2))⟩] := by
  eq_refl

set_option maxRecDepth 65536 in
/-- The result row of the run: the three sums over all tiles. -/
theorem row_eq : kernelRun0_A.sl.r_124 (F := Ideal) = fun c arg1 harg1 arg2 harg2 arg3 harg3 arg4 harg4 arg6 arg7 arg8 x0 x1 x2 x3 =>
    KernelTile.lanes
      (clsAll (ldWy c arg4 harg4 arg7 x3) (ldWq c arg3 harg3 arg6 x2) (ldSc c arg3 harg3 arg8 x2) (ldCls arg1 harg1 x0)
        (kernelRun0_A.sl.v15 (F := Ideal)) (kernelRun0_A.sl.v21 (F := Ideal)))
      (boxAll (ldWy c arg4 harg4 arg7 x3) (ldWq c arg3 harg3 arg6 x2) (ldSc c arg3 harg3 arg8 x2) (ldReg arg2 harg2 x1)
        (kernelRun0_A.sl.v15 (F := Ideal)) (kernelRun0_A.sl.v21 (F := Ideal)))
      (numAll (ldWy c arg4 harg4 arg7 x3) (ldWq c arg3 harg3 arg6 x2) (ldSc c arg3 harg3 arg8 x2)
        (kernelRun0_A.sl.v15 (F := Ideal)) (kernelRun0_A.sl.v21 (F := Ideal))) := by
  eq_refl

end Cert.KernelBlock
-- ==== Proof.Overlap.lean ====
module

public import Idealize.ShloMosaic.Lib.Pointwise

/-!
The real arithmetic of one anchor against the boxes of one picture: the overlap, its share `q` of the two areas' sum, the
intersection over union, and why thresholds on one are thresholds on the other.
-/

@[expose] public section

namespace Cert.Loss

/-- How far the interval of half width `h` round `c` meets the interval from `lo` to `hi`. -/
noncomputable def ov (c h lo hi : ℝ) : ℝ := max (min (c + h) hi - max (c - h) lo) 0

theorem ov_nonneg (c h lo hi : ℝ) : 0 ≤ ov c h lo hi := le_max_right _ _

theorem ov_le_width {h : ℝ} (hh : 0 ≤ h) (c lo hi : ℝ) : ov c h lo hi ≤ 2 * h := by
  refine max_le ?_ (by linarith)
  have h1 := min_le_left (c + h) hi
  have h2 := le_max_left (c - h) lo
  linarith

theorem ov_le_length {lo hi : ℝ} (hl : lo ≤ hi) (c h : ℝ) : ov c h lo hi ≤ hi - lo := by
  refine max_le ?_ (by linarith)
  have h1 := min_le_right (c + h) hi
  have h2 := le_max_right (c - h) lo
  linarith

/-- The corners of one picture's boxes, of which nothing is assumed: they may be infinite, or the wrong way round. -/
structure Boxes where
  X1 : Fin 64 → EReal
  Y1 : Fin 64 → EReal
  X2 : Fin 64 → EReal
  Y2 : Fin 64 → EReal

/-- From `lo` to `hi` is an interval of real numbers. -/
def Seg (lo hi : EReal) : Prop := ∃ p : ℝ × ℝ, p.1 ≤ p.2 ∧ lo = (p.1 : EReal) ∧ hi = (p.2 : EReal)

open Classical in
/-- The ends of such an interval as real numbers; both are zero if `p` fails. -/
noncomputable def realEnd (p : Prop) (v : EReal) : ℝ := if p then v.toReal else 0

theorem realEnd_le {p : Prop} {lo hi : EReal} (h : p → Seg lo hi) : realEnd p lo ≤ realEnd p hi := by
  unfold realEnd
  split
  · next hp =>
    obtain ⟨⟨l, u⟩, hl, rfl, rfl⟩ := h hp
    simpa using hl
  · exact le_rfl

/-- The half widths of the three anchor sizes. -/
def half : Fin 3 → ℝ := ![16, 32, 64]

/-- The centre of the `n`-th cell of the grid. -/
noncomputable def ctr (n : ℕ) : ℝ := ((n : ℝ) + 1 / 2) * 4

theorem half_ge (s : Fin 3) : 16 ≤ half s := by fin_cases s <;> norm_num [half]

variable (b : Boxes) (s : Fin 3) (y x : Fin 128) (g : Fin 64)

namespace Boxes

/-- Box `g` has real corners, the first not beyond the second. -/
def Good : Prop := Seg (b.X1 g) (b.X2 g) ∧ Seg (b.Y1 g) (b.Y2 g)

/-- The corners if they are real and ordered. Any other box counts as the empty one at the origin: it is shown in `Corners`
that either program gives it the share and the ratio of an empty box. -/
noncomputable def x1 : ℝ := realEnd (b.Good g) (b.X1 g)
noncomputable def y1 : ℝ := realEnd (b.Good g) (b.Y1 g)
noncomputable def x2 : ℝ := realEnd (b.Good g) (b.X2 g)
noncomputable def y2 : ℝ := realEnd (b.Good g) (b.Y2 g)

theorem hx : b.x1 g ≤ b.x2 g := realEnd_le fun h => h.1
theorem hy : b.y1 g ≤ b.y2 g := realEnd_le fun h => h.2

/-- The overlap along the columns. -/
noncomputable def wx : ℝ := ov (ctr x) (half s) (b.x1 g) (b.x2 g)

/-- The overlap along the rows. -/
noncomputable def wy : ℝ := ov (ctr y) (half s) (b.y1 g) (b.y2 g)

/-- The area of the box and the area of the anchor together. -/
noncomputable def C : ℝ := (b.x2 g - b.x1 g) * (b.y2 g - b.y1 g) + 4 * half s * half s

/-- The overlap's share of the two areas. -/
noncomputable def q : ℝ := b.wy s y g * (b.wx s x g * (1 / b.C s g))

/-- The intersection over union, the union kept above `e`. -/
noncomputable def iou (e : ℝ) : ℝ := b.wx s x g * b.wy s y g / max (b.C s g - b.wx s x g * b.wy s y g) e

theorem C_pos : 1024 ≤ b.C s g := by
  have h1 := half_ge s
  have := mul_nonneg (sub_nonneg.2 (b.hx g)) (sub_nonneg.2 (b.hy g))
  unfold C
  nlinarith

theorem inter_nonneg : 0 ≤ b.wx s x g * b.wy s y g := mul_nonneg (ov_nonneg ..) (ov_nonneg ..)

theorem two_inter_le : 2 * (b.wx s x g * b.wy s y g) ≤ b.C s g := by
  have h0 : (0:ℝ) ≤ half s := by linarith [half_ge s]
  have a1 : b.wx s x g * b.wy s y g ≤ (2 * half s) * (2 * half s) :=
    mul_le_mul (ov_le_width h0 ..) (ov_le_width h0 ..) (ov_nonneg ..) (by linarith)
  have a2 : b.wx s x g * b.wy s y g ≤ (b.x2 g - b.x1 g) * (b.y2 g - b.y1 g) :=
    mul_le_mul (ov_le_length (b.hx g) ..) (ov_le_length (b.hy g) ..) (ov_nonneg ..) (by linarith [b.hx g])
  unfold C
  nlinarith

theorem q_eq : b.q s y x g = b.wx s x g * b.wy s y g / b.C s g := by
  unfold q; ring

theorem q_nonneg : 0 ≤ b.q s y x g := by
  rw [q_eq]
  exact div_nonneg (b.inter_nonneg ..) (by linarith [b.C_pos s g])

theorem q_le_half : b.q s y x g ≤ 1 / 2 := by
  have := b.C_pos s g
  rw [q_eq, div_le_iff₀ (by linarith)]
  linarith [b.two_inter_le s y x g]

variable {e : ℝ} (he : e ≤ 512)

include he in
/-- The lower bound of the union is never met. -/
theorem iou_eq : b.iou s y x g e = b.wx s x g * b.wy s y g / (b.C s g - b.wx s x g * b.wy s y g) := by
  have := b.C_pos s g
  have := b.two_inter_le s y x g
  unfold iou
  rw [max_eq_left (by linarith)]

include he in
/-- A threshold `t` on the ratio is the threshold `t / (1 + t)` on the share. -/
theorem le_iou {t : ℝ} (ht : 0 ≤ t) : t ≤ b.iou s y x g e ↔ t / (1 + t) ≤ b.q s y x g := by
  have := b.C_pos s g
  have := b.two_inter_le s y x g
  rw [b.iou_eq s y x g he, q_eq, le_div_iff₀ (by linarith), div_le_div_iff₀ (by linarith) (by linarith)]
  constructor <;> intro h <;> nlinarith

include he in
theorem iou_le_iou (y' x' : Fin 128) (s' : Fin 3) (g' : Fin 64) :
    b.iou s y x g e ≤ b.iou s' y' x' g' e ↔ b.q s y x g ≤ b.q s' y' x' g' := by
  have := b.C_pos s g
  have := b.two_inter_le s y x g
  have := b.C_pos s' g'
  have := b.two_inter_le s' y' x' g'
  rw [b.iou_eq s y x g he, b.iou_eq s' y' x' g' he, q_eq, q_eq, div_le_div_iff₀ (by linarith) (by linarith),
    div_le_div_iff₀ (by linarith) (by linarith)]
  constructor <;> intro h <;> nlinarith

/-- Of all anchors the best for box `g` is met at one anchor and exceeded at none. -/
def IsBest (e : ℝ) (t : ℝ) : Prop := IsGreatest (Set.range fun p : Fin 3 × Fin 128 × Fin 128 => b.iou p.1 p.2.1 p.2.2 g e) t

include he in
/-- The best ratio from the greatest overlaps along each axis, one size at a time. -/
theorem isBest_of_axes {mx my : Fin 3 → ℝ} (hmx : ∀ s, IsGreatest (Set.range fun x => b.wx s x g) (mx s))
    (hmy : ∀ s, IsGreatest (Set.range fun y => b.wy s y g) (my s)) {t : ℝ}
    (ht : IsGreatest (Set.range fun s => mx s * my s / max (b.C s g - mx s * my s) e) t) : b.IsBest g e t := by
  constructor
  · obtain ⟨s, rfl⟩ := ht.1
    obtain ⟨x, hx⟩ := (hmx s).1
    obtain ⟨y, hy⟩ := (hmy s).1
    refine ⟨(s, y, x), ?_⟩
    simp only [iou] at hx hy ⊢
    rw [hx, hy]
  · rintro _ ⟨⟨s, y, x⟩, rfl⟩
    refine le_trans ?_ (ht.2 ⟨s, rfl⟩)
    obtain ⟨x', hx'⟩ := (hmx s).1
    obtain ⟨y', hy'⟩ := (hmy s).1
    have ex : b.wx s x g ≤ b.wx s x' g := by rw [show b.wx s x' g = mx s from hx']; exact (hmx s).2 ⟨x, rfl⟩
    have ey : b.wy s y g ≤ b.wy s y' g := by rw [show b.wy s y' g = my s from hy']; exact (hmy s).2 ⟨y, rfl⟩
    have hx'' : mx s = b.wx s x' g := hx'.symm
    have hy'' : my s = b.wy s y' g := hy'.symm
    simp only [hx'', hy'']
    have key := (b.iou_le_iou s y x g he y' x' s g).2 (by
      rw [q_eq, q_eq]
      have := b.C_pos s g
      exact div_le_div_of_nonneg_right (mul_le_mul ex ey (ov_nonneg ..) (ov_nonneg ..)) (by linarith))
    exact key

/-- The threshold the kernel keeps for a box whose best ratio is `t`. -/
noncomputable def thr (d t : ℝ) : ℝ := min (if d < t then (t - d) / (1 + (t - d)) else 2) (1 / 3)

include he in
/-- An anchor is matched in the reference's words exactly when one box passes its threshold. -/
theorem matched_iff {d : ℝ} (t : Fin 64 → ℝ) (k : Fin 64) (hk : ∀ g, b.q s y x g ≤ b.q s y x k) :
    (∃ g, 0 ≤ b.q s y x g - thr d (t g))
      ↔ (1 / 2 ≤ b.iou s y x k e ∨ ∃ g, t g - d ≤ b.iou s y x g e ∧ d < t g) := by
  have third : (1 / 2 : ℝ) ≤ b.iou s y x k e ↔ 1 / 3 ≤ b.q s y x k := by
    rw [b.le_iou s y x k he (by norm_num)]; norm_num
  rw [third]
  constructor
  · rintro ⟨g, hg⟩
    rw [sub_nonneg, thr, min_le_iff] at hg
    rcases hg with hg | hg
    · by_cases hd : d < t g
      · rw [if_pos hd] at hg
        exact .inr ⟨g, (b.le_iou s y x g he (by linarith)).2 hg, hd⟩
      · rw [if_neg hd] at hg
        linarith [b.q_le_half s y x g]
    · exact .inl (hg.trans (hk g))
  · rintro (h | ⟨g, hg, hd⟩)
    · exact ⟨k, sub_nonneg.2 ((min_le_right _ _).trans h)⟩
    · refine ⟨g, sub_nonneg.2 ((min_le_left _ _).trans ?_)⟩
      rw [if_pos hd]
      exact (b.le_iou s y x g he (by linarith)).1 hg

include he in
theorem iou_lt_low : b.iou s y x g e < 13421773 / 33554432 ↔ b.q s y x g < 13421773 / 46976205 := by
  rw [← not_le, ← not_le, b.le_iou s y x g he (by norm_num)]; norm_num

end Boxes

/-- `k` is the first place at which `q` is greatest. -/
def IsFirst {α : Type*} [LinearOrder α] {n : ℕ} (q : Fin n → α) (k : Fin n) : Prop :=
  (∀ j, q j ≤ q k) ∧ ∀ j, j < k → q j < q k

theorem exists_isFirst {α : Type*} [LinearOrder α] {n : ℕ} (q : Fin (n + 1) → α) : ∃ k, IsFirst q k := by
  classical
  obtain ⟨m, hm⟩ := Finite.exists_max q
  let S := Finset.univ.filter fun k => ∀ j, q j ≤ q k
  have hS : S.Nonempty := ⟨m, by simp [S, hm]⟩
  have h1 := Finset.min'_mem S hS
  refine ⟨S.min' hS, by simpa [S] using h1, fun j hj => ?_⟩
  by_contra hc
  have h1' : ∀ j, q j ≤ q (S.min' hS) := by simpa [S] using h1
  have : j ∈ S := by simpa [S] using fun i => (h1' i).trans (not_lt.1 hc)
  exact absurd (S.min'_le j this) (not_le.2 hj)

theorem IsFirst.unique {α : Type*} [LinearOrder α] {n : ℕ} {q : Fin n → α} {k l : Fin n} (hk : IsFirst q k) (hl : IsFirst q l) : k = l := by
  rcases lt_trichotomy k l with h | h | h
  · exact absurd (hl.2 k h) (not_lt.2 (hk.1 l))
  · exact h
  · exact absurd (hk.2 l h) (not_lt.2 (hl.1 k))

/-! ### The running maximum, one box after another -/

/-- What the loop over the boxes carries at one place: the greatest share, the greatest margin over the threshold, and the
    four encoded numbers of the box that set the greatest share. -/
@[ext] structure St where
  m : EReal
  pm : EReal
  a : EReal
  b : EReal
  c : EReal
  d : EReal

/-- One box of the loop. -/
noncomputable def St.step (q thr a b c d : EReal) (t : St) : St where
  m := max t.m q
  pm := max t.pm (q - thr)
  a := if t.m < q then a else t.a
  b := if t.m < q then b else t.b
  c := if t.m < q then c else t.c
  d := if t.m < q then d else t.d

/-- The first `n` boxes. -/
noncomputable def run (q thr a b c d : ℕ → EReal) : ℕ → St
  | 0 => ⟨((-1 : ℝ) : EReal), ((-2 : ℝ) : EReal), 0, 0, 0, 0⟩
  | n + 1 => (run q thr a b c d n).step (q n) (thr n) (a n) (b n) (c n) (d n)

theorem run_spec (q thr a b c d : ℕ → EReal) (hq : ∀ n, ((-1 : ℝ) : EReal) < q n) (n : ℕ) :
    ∃ k ≤ n, (∀ j ≤ n, q j ≤ q k) ∧ (∀ j < k, q j < q k) ∧ (run q thr a b c d (n + 1)).m = q k ∧
      (run q thr a b c d (n + 1)).a = a k ∧ (run q thr a b c d (n + 1)).b = b k ∧
      (run q thr a b c d (n + 1)).c = c k ∧ (run q thr a b c d (n + 1)).d = d k := by
  induction n with
  | zero =>
    refine ⟨0, le_rfl, fun j hj => by rw [Nat.le_zero.1 hj], fun j hj => absurd hj (Nat.not_lt_zero _), ?_⟩
    exact ⟨max_eq_right (hq 0).le, if_pos (hq 0), if_pos (hq 0), if_pos (hq 0), if_pos (hq 0)⟩
  | succ n ih =>
    obtain ⟨k, hk, h1, h2, hm, ha, hb, hc, hd⟩ := ih
    rw [run]
    simp only [St.step, hm, ha, hb, hc, hd]
    by_cases h : q k < q (n + 1)
    · refine ⟨n + 1, le_rfl, fun j hj => ?_, fun j hj => (h1 j (Nat.lt_succ_iff.1 hj)).trans_lt h, by simp [h, max_eq_right h.le]⟩
      rcases Nat.le_succ_iff.1 hj with hj | rfl
      · exact (h1 j hj).trans h.le
      · exact le_rfl
    · refine ⟨k, hk.trans n.le_succ, fun j hj => ?_, h2, by simp [h, max_eq_left (not_lt.1 h)]⟩
      rcases Nat.le_succ_iff.1 hj with hj | rfl
      · exact h1 j hj
      · exact not_lt.1 h

theorem run_pm (q thr a b c d : ℕ → EReal) (n : ℕ) :
    0 ≤ (run q thr a b c d n).pm ↔ ∃ j < n, 0 ≤ q j - thr j := by
  induction n with
  | zero =>
    simp only [run, Nat.not_lt_zero, false_and, exists_false, iff_false, not_le]
    exact EReal.coe_lt_coe_iff.2 (by norm_num : (-2:ℝ) < 0)
  | succ n ih =>
    rw [run]
    simp only [St.step, le_max_iff, ih]
    constructor
    · rintro (⟨j, hj, h⟩ | h)
      · exact ⟨j, hj.trans n.lt_succ_self, h⟩
      · exact ⟨n, n.lt_succ_self, h⟩
    · rintro ⟨j, hj, h⟩
      rcases Nat.lt_succ_iff_lt_or_eq.1 hj with hj | rfl
      · exact .inl ⟨j, hj, h⟩
      · exact .inr h

/-- The greatest of finitely many real numbers, as the fold computes it. -/
theorem fold_max_coe {α : Type*} [Fintype α] (f : α → ℝ) {M : ℝ} (hM : IsGreatest (Set.range f) M) {i : EReal} (hi : i ≤ (M : EReal)) :
    Finset.univ.fold max i (fun k => ((f k : ℝ) : EReal)) = (M : EReal) := by
  apply le_antisymm
  · rw [Finset.fold_max_le]
    exact ⟨hi, fun k _ => EReal.coe_le_coe_iff.2 (hM.2 ⟨k, rfl⟩)⟩
  · obtain ⟨k, rfl⟩ := hM.1
    exact (Finset.le_fold_max _).2 (.inr ⟨k, Finset.mem_univ _, le_rfl⟩)

theorem exists_greatest {α : Type*} [Finite α] [Nonempty α] (f : α → ℝ) : ∃ M, IsGreatest (Set.range f) M := by
  obtain ⟨k, hk⟩ := Finite.exists_max f
  exact ⟨f k, ⟨k, rfl⟩, by rintro _ ⟨j, rfl⟩; exact hk j⟩

end Cert.Loss
-- ==== Proof.Literals.lean ====
module

public import proofs.«01_k».proof.KernelIdeal
public import proofs.«01_k».proof.ReferenceIdeal
public import Idealize.ShloMosaic.Lib.Pointwise

/-!
The real numbers the literals of both programs stand for.
-/

@[expose] public section

namespace Cert.Lit

open Idealize.ShloMosaic

/-- The lower bound of the union and of a box's side: the number nearest to one millionth. -/
noncomputable def eps : ℝ := 8796093 / 8796093022208

/-- The margin of the best ratio: the number nearest to one thousandth. -/
noncomputable def del : ℝ := 8589935 / 8589934592

theorem eps_pos : 0 < eps := by norm_num [eps]
theorem eps_le : eps ≤ 512 := by norm_num [eps]
theorem del_pos : 0 < del := by norm_num [del]

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem four : Ideal.ofBits .f32 0x40800000#32 = ((4 : ℝ) : EReal) := by
  simp [Ideal.ofBits, Ideal.ieee, -EReal.coe_mul]; norm_num

theorem n16 : Ideal.ofBits .f32 0x41800000#32 = ((16 : ℝ) : EReal) := by
  simp [Ideal.ofBits, Ideal.ieee, -EReal.coe_mul]; norm_num

theorem n32 : Ideal.ofBits .f32 0x42000000#32 = ((32 : ℝ) : EReal) := by
  simp [Ideal.ofBits, Ideal.ieee, -EReal.coe_mul]; norm_num

theorem n64 : Ideal.ofBits .f32 0x42800000#32 = ((64 : ℝ) : EReal) := by
  simp [Ideal.ofBits, Ideal.ieee, -EReal.coe_mul]; norm_num

theorem n128 : Ideal.ofBits .f32 0x43000000#32 = ((128 : ℝ) : EReal) := by
  simp [Ideal.ofBits, Ideal.ieee, -EReal.coe_mul]; norm_num

theorem n448 : Ideal.ofBits .f32 0x43E00000#32 = ((448 : ℝ) : EReal) := by
  simp [Ideal.ofBits, Ideal.ieee, -EReal.coe_mul]; norm_num

theorem n480 : Ideal.ofBits .f32 0x43F00000#32 = ((480 : ℝ) : EReal) := by
  simp [Ideal.ofBits, Ideal.ieee, -EReal.coe_mul]; norm_num

theorem n496 : Ideal.ofBits .f32 0x43F80000#32 = ((496 : ℝ) : EReal) := by
  simp [Ideal.ofBits, Ideal.ieee, -EReal.coe_mul]; norm_num

theorem n512 : Ideal.ofBits .f32 0x44000000#32 = ((512 : ℝ) : EReal) := by
  simp [Ideal.ofBits, Ideal.ieee, -EReal.coe_mul]; norm_num

theorem n1024 : Ideal.ofBits .f32 0x44800000#32 = ((1024 : ℝ) : EReal) := by
  simp [Ideal.ofBits, Ideal.ieee, -EReal.coe_mul]; norm_num

theorem n4096 : Ideal.ofBits .f32 0x45800000#32 = ((4096 : ℝ) : EReal) := by
  simp [Ideal.ofBits, Ideal.ieee, -EReal.coe_mul]; norm_num

theorem n16384 : Ideal.ofBits .f32 0x46800000#32 = ((16384 : ℝ) : EReal) := by
  simp [Ideal.ofBits, Ideal.ieee, -EReal.coe_mul]; norm_num

theorem neg_one : Ideal.ofBits .f32 0xBF800000#32 = ((-1 : ℝ) : EReal) := by
  simp [Ideal.ofBits, Ideal.ieee, -EReal.coe_mul]; norm_num

theorem neg_two : Ideal.ofBits .f32 0xC0000000#32 = ((-2 : ℝ) : EReal) := by
  simp [Ideal.ofBits, Ideal.ieee, -EReal.coe_mul]; norm_num

theorem eps_bits : Ideal.ofBits .f32 0x358637BD#32 = (eps : EReal) := by
  simp [Ideal.ofBits, Ideal.ieee, eps, -EReal.coe_mul]; norm_num

theorem del_bits : Ideal.ofBits .f32 0x3A83126F#32 = (del : EReal) := by
  simp [Ideal.ofBits, Ideal.ieee, del, -EReal.coe_mul]; norm_num

theorem bot_bits : Ideal.ofBits .f32 0xFF800000#32 = ⊥ := by
  simp [Ideal.ofBits, Ideal.ieee]

theorem top_bits : Ideal.ofBits .f32 0x7F800000#32 = ⊤ := by
  simp [Ideal.ofBits, Ideal.ieee]

theorem third : Named.named (F := Ideal) (φ := .f32) KernelIdeal.κ "third" 0x3EAAAAAB#32 = ((1 / 3 : ℝ) : EReal) :=
  IdealRules.named_const.ideal_named_scalar _ _ _ _ rfl

theorem neg_threshold : Named.named (F := Ideal) (φ := .f32) KernelIdeal.κ "neg_threshold" 0x3E924925#32 = ((13421773 / 46976205 : ℝ) : EReal) :=
  IdealRules.named_const.ideal_named_scalar _ _ _ _ rfl

theorem log_32 : Named.named (F := Ideal) (φ := .f32) KernelIdeal.κ "log_32" 0x405DCE9E#32 = ((Real.log 32 : ℝ) : EReal) :=
  IdealRules.named_const.ideal_named_scalar _ _ _ _ rfl

theorem log_64 : Named.named (F := Ideal) (φ := .f32) KernelIdeal.κ "log_64" 0x40851592#32 = ((Real.log 64 : ℝ) : EReal) :=
  IdealRules.named_const.ideal_named_scalar _ _ _ _ rfl

theorem log_128 : Named.named (F := Ideal) (φ := .f32) KernelIdeal.κ "log_128" 0x409B43D5#32 = ((Real.log 128 : ℝ) : EReal) :=
  IdealRules.named_const.ideal_named_scalar _ _ _ _ rfl

theorem low_bits : Ideal.ofBits .f32 0x3ECCCCCD#32 = ((13421773 / 33554432 : ℝ) : EReal) := by
  simp [Ideal.ofBits, Ideal.ieee, -EReal.coe_mul]; norm_num

end Cert.Lit
-- ==== Proof.Spec.lean ====
module

public import proofs.«01_k».proof.Proof.Overlap
public import proofs.«01_k».proof.Proof.Literals

/-!
The loss, once: what both programs compute for a picture. Class outputs, offset outputs and the corners of the boxes are
extended reals, since nothing is assumed of them; shares and ratios are real.
-/

@[expose] public section

namespace Cert.Loss

open Idealize.ShloMosaic Cert.Lit

open Classical in
/-- One as a number if the proposition holds, else zero. -/
noncomputable def bit (p : Prop) : EReal := if p then 1 else 0

namespace Boxes

variable (b : Boxes) (s : Fin 3) (y x : Fin 128) (g : Fin 64)

/-- The best ratio of a box. -/
noncomputable def best : ℝ := (exists_greatest fun p : Fin 3 × Fin 128 × Fin 128 => b.iou p.1 p.2.1 p.2.2 g eps).choose

theorem best_spec : b.IsBest g eps (b.best g) :=
  (exists_greatest fun p : Fin 3 × Fin 128 × Fin 128 => b.iou p.1 p.2.1 p.2.2 g eps).choose_spec

/-- The first box of greatest share. -/
noncomputable def first : Fin 64 := (exists_isFirst fun g => b.q s y x g).choose

theorem first_spec : IsFirst (fun g => b.q s y x g) (b.first s y x) := (exists_isFirst fun g => b.q s y x g).choose_spec

end Boxes

/-- The anchor lies inside the picture. -/
def Inside (s : Fin 3) (y x : Fin 128) : Prop :=
  (half s ≤ ctr x ∧ ctr x ≤ 512 - half s) ∧ (half s ≤ ctr y ∧ ctr y ≤ 512 - half s)

namespace Boxes

variable (b : Boxes) (s : Fin 3) (y x : Fin 128)

/-- The anchor is a positive sample. -/
def Pos : Prop := (∃ g, 0 ≤ b.q s y x g - thr del (b.best g)) ∧ Inside s y x

/-- The anchor is a negative sample. -/
def Neg : Prop := (b.q s y x (b.first s y x) < 13421773 / 46976205 ∧ ¬ b.Pos s y x) ∧ Inside s y x

noncomputable def posf : EReal := bit (b.Pos s y x)

noncomputable def lw : EReal := bit (b.Pos s y x) + bit (b.Neg s y x)

/-- The centre of box `g` along the columns, and along the rows. -/
noncomputable def mx (g : Fin 64) : EReal := (b.X1 g + b.X2 g) * ((1 / 2 : ℝ) : EReal)
noncomputable def my (g : Fin 64) : EReal := (b.Y1 g + b.Y2 g) * ((1 / 2 : ℝ) : EReal)

/-- The logarithm of its sides. -/
noncomputable def lgw (g : Fin 64) : EReal := Ideal.log (max (b.X2 g - b.X1 g) (eps : EReal))
noncomputable def lgh (g : Fin 64) : EReal := Ideal.log (max (b.Y2 g - b.Y1 g) (eps : EReal))

/-- The four offsets of the box the anchor overlaps most. -/
noncomputable def enc : Fin 4 → EReal := ![
  Ideal.div (b.mx (b.first s y x) - ((ctr x : ℝ) : EReal)) ((2 * half s : ℝ) : EReal),
  Ideal.div (b.my (b.first s y x) - ((ctr y : ℝ) : EReal)) ((2 * half s : ℝ) : EReal),
  b.lgw (b.first s y x) - ((Real.log (2 * half s) : ℝ) : EReal),
  b.lgh (b.first s y x) - ((Real.log (2 * half s) : ℝ) : EReal)]

/-- The weighted classification term of an anchor with output `c`. -/
noncomputable def clsTerm (c : EReal) : EReal :=
  (max c 0 - c * b.posf s y x + Ideal.log1p (Ideal.exp (-(max c (-c))))) * b.lw s y x

/-- The distance of output `r` from offset number `k`. -/
noncomputable def dist (k : Fin 4) (r : EReal) : EReal := max (r - b.enc s y x k) (-(r - b.enc s y x k))

/-- The weighted offset term of an anchor with outputs `r`. -/
noncomputable def boxTerm (r : Fin 4 → EReal) : EReal :=
  (b.dist s y x 0 (r 0) + b.dist s y x 1 (r 1) + b.dist s y x 2 (r 2) + b.dist s y x 3 (r 3)) * b.posf s y x

end Boxes

/-! ### The sums over a picture and over the batch -/

/-- The three sums of one picture: of the classification terms, of the offset terms, of the samples. -/
noncomputable def clsSum (b : Boxes) (c : Fin 3 → Fin 128 → Fin 128 → EReal) : EReal := ∑ s, ∑ y, ∑ x, b.clsTerm s y x (c s y x)
noncomputable def boxSum (b : Boxes) (r : Fin 3 → Fin 4 → Fin 128 → Fin 128 → EReal) : EReal :=
  ∑ s, ∑ y, ∑ x, b.boxTerm s y x fun k => r s k y x
noncomputable def numSum (b : Boxes) : EReal := ∑ s, ∑ y, ∑ x, b.lw s y x

/-- The number of samples, at least one. -/
noncomputable def num (b : Fin 8 → Boxes) : EReal := max (∑ i, numSum (b i)) 1

noncomputable def clsLoss (b : Fin 8 → Boxes) (c : Fin 8 → Fin 3 → Fin 128 → Fin 128 → EReal) : EReal :=
  Ideal.div (∑ i, clsSum (b i) (c i)) (num b)
noncomputable def boxLoss (b : Fin 8 → Boxes) (r : Fin 8 → Fin 3 → Fin 4 → Fin 128 → Fin 128 → EReal) : EReal :=
  Ideal.div (∑ i, boxSum (b i) (r i)) (num b)

/-! ### Real numbers among the extended ones -/

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm
theorem coe_max_zero (a : ℝ) : max (a : EReal) 0 = ((max a 0 : ℝ) : EReal) := coe_max a 0

theorem div_coe_coe (x : ℝ) {y : ℝ} (hy : y ≠ 0) : Ideal.div (x : EReal) (y : EReal) = ((x / y : ℝ) : EReal) := by
  rw [Ideal.div_coe hy, ← EReal.coe_mul]; congr 1; ring

theorem div_one_coe {y : ℝ} (hy : y ≠ 0) : Ideal.div 1 (y : EReal) = ((1 / y : ℝ) : EReal) := div_coe_coe 1 hy

theorem log_coe_pos {x : ℝ} (hx : 0 < x) : Ideal.log (x : EReal) = ((Real.log x : ℝ) : EReal) := by
  rw [Ideal.log_coe, if_neg (not_le.2 hx)]

/-- The overlap in the operations of either program. -/
theorem ov_coe (c h lo hi : ℝ) :
    max (min ((c : EReal) + (h : EReal)) (hi : EReal) - max ((c : EReal) - (h : EReal)) (lo : EReal)) 0 = ((ov c h lo hi : ℝ) : EReal) := by
  rw [← EReal.coe_add, ← EReal.coe_sub, coe_max, coe_min, ← EReal.coe_sub, coe_max_zero]; rfl

theorem bit_nonneg (p : Prop) : 0 ≤ bit p := by unfold bit; split <;> simp

/-- A truth value as the number a conversion makes of it. -/
theorem bit_ofBool (p : Prop) [Decidable p] : (((BitVec.ofBool (decide p)).toNat : ℝ) : EReal) = bit p := by
  unfold bit; by_cases h : p <;> simp [h]

theorem ofBool_congr {p q : Prop} {_ : Decidable p} {_ : Decidable q} (h : p ↔ q) : BitVec.ofBool (decide p) = BitVec.ofBool (decide q) := by
  simp [h]

/-- The words of truth values under the logical operations. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem xori_ofBool (p : Prop) [Decidable p] :
    IntOp.xori (BitVec.ofBool (decide p)) 1#1 = BitVec.ofBool (decide (¬ p)) := by
  by_cases hp : p <;> simp [hp, IntOp.xori]

theorem bit_eq_bit {p q : Prop} (h : p ↔ q) : bit p = bit q := by rw [propext h]

theorem bit_or {p q : Prop} (h : ¬ (p ∧ q)) : bit (p ∨ q) = bit p + bit q := by
  unfold bit
  by_cases hp : p <;> by_cases hq : q <;> simp_all

/-- A distance weighted by a truth value may weigh the offset by it too. -/
theorem dist_bit (r e : EReal) (p : Prop) :
    max (r - e * bit p) (-(r - e * bit p)) * bit p = max (r - e) (-(r - e)) * bit p := by
  unfold bit; split <;> simp

end Cert.Loss
-- ==== Proof.Corners.lean ====
module

public import proofs.«01_k».proof.Proof.Spec

/-!
Corners of any kind. A box whose corners are infinite or the wrong way round either meets no anchor along one of the axes, or
has an infinite area; in both cases either program gives it the share zero and the ratio zero, as if it were empty.
-/

@[expose] public section

namespace Cert.Loss

open Idealize.ShloMosaic Cert.Lit

/-- The overlap of an anchor's side with an interval whose ends are of any kind. -/
noncomputable def rov (c h : ℝ) (lo hi : EReal) : ℝ :=
  (max (min ((c : EReal) + (h : EReal)) hi - max ((c : EReal) - (h : EReal)) lo) 0).toReal

theorem rov_real (c h lo hi : ℝ) : rov c h (lo : EReal) (hi : EReal) = ov c h lo hi := by
  unfold rov; rw [ov_coe, EReal.toReal_coe]

/-- It is a real number, being at most the anchor's width. -/
theorem rov_coe (c h : ℝ) (lo hi : EReal) :
    max (min ((c : EReal) + (h : EReal)) hi - max ((c : EReal) - (h : EReal)) lo) 0 = ((rov c h lo hi : ℝ) : EReal) := by
  have hle : min ((c : EReal) + (h : EReal)) hi - max ((c : EReal) - (h : EReal)) lo ≤ (((c + h) - (c - h) : ℝ) : EReal) := by
    rw [EReal.coe_sub, EReal.coe_add, EReal.coe_sub]
    exact EReal.sub_le_sub (min_le_left _ _) (le_max_left _ _)
  refine (EReal.coe_toReal (ne_of_lt (max_lt (lt_of_le_of_lt hle (EReal.coe_lt_top _)) EReal.zero_lt_top)) ?_).symm
  exact ne_of_gt (lt_of_lt_of_le EReal.bot_lt_zero (le_max_right _ _))

theorem rov_nonneg (c h : ℝ) (lo hi : EReal) : 0 ≤ rov c h lo hi := EReal.toReal_nonneg (le_max_right _ _)

/-- An interval the wrong way round is met nowhere. -/
theorem rov_zero (c h : ℝ) {lo hi : EReal} (hl : hi ≤ lo) : rov c h lo hi = 0 := by
  unfold rov
  rw [max_eq_right (EReal.sub_nonpos.2 (((min_le_right _ _).trans hl).trans (le_max_right _ _))), EReal.toReal_zero]

theorem ov_self (c h l : ℝ) : ov c h l l = 0 :=
  le_antisymm ((ov_le_length le_rfl c h).trans_eq (sub_self l)) (ov_nonneg ..)

/-- An interval of positive length that is not one of real numbers is infinitely long. -/
theorem length_top {lo hi : EReal} (hl : lo < hi) (hs : ¬ Seg lo hi) : hi - lo = ⊤ := by
  induction hi with
  | bot => exact absurd hl not_lt_bot
  | top => exact EReal.top_sub (ne_of_lt hl)
  | coe u =>
    induction lo with
    | bot => exact EReal.sub_bot (EReal.coe_ne_bot u)
    | top => exact absurd hl not_top_lt
    | coe l => exact absurd ⟨(l, u), (EReal.coe_lt_coe_iff.1 hl).le, rfl, rfl⟩ hs

namespace Boxes

variable (b : Boxes) (s : Fin 3) (y x : Fin 128) (g : Fin 64)

/-- The overlaps of an anchor with a box, and the two areas together, as either program has them. -/
noncomputable def wX : ℝ := rov (ctr x) (half s) (b.X1 g) (b.X2 g)
noncomputable def wY : ℝ := rov (ctr y) (half s) (b.Y1 g) (b.Y2 g)
noncomputable def CE : EReal := (b.X2 g - b.X1 g) * (b.Y2 g - b.Y1 g) + ((4 * half s * half s : ℝ) : EReal)

variable {g}

theorem good_corners (h : b.Good g) : b.X1 g = ((b.x1 g : ℝ) : EReal) ∧ b.Y1 g = ((b.y1 g : ℝ) : EReal) ∧
    b.X2 g = ((b.x2 g : ℝ) : EReal) ∧ b.Y2 g = ((b.y2 g : ℝ) : EReal) := by
  unfold x1 y1 x2 y2 realEnd
  rw [if_pos h, if_pos h, if_pos h, if_pos h]
  obtain ⟨⟨p, -, e1, e2⟩, ⟨r, -, e3, e4⟩⟩ := h
  rw [e1, e2, e3, e4]
  exact ⟨rfl, rfl, rfl, rfl⟩

theorem wX_good (h : b.Good g) : b.wX s x g = b.wx s x g := by
  unfold wX wx
  rw [(b.good_corners h).1, (b.good_corners h).2.2.1, rov_real]

theorem wY_good (h : b.Good g) : b.wY s y g = b.wy s y g := by
  unfold wY wy
  rw [(b.good_corners h).2.1, (b.good_corners h).2.2.2, rov_real]

theorem CE_good (h : b.Good g) : b.CE s g = ((b.C s g : ℝ) : EReal) := by
  unfold CE C
  obtain ⟨e1, e2, e3, e4⟩ := b.good_corners h
  rw [e1, e2, e3, e4, ← EReal.coe_sub, ← EReal.coe_sub, ← EReal.coe_mul, ← EReal.coe_add]

theorem wx_bad (h : ¬ b.Good g) : b.wx s x g = 0 := by
  unfold wx x1 x2 realEnd
  rw [if_neg h, if_neg h, ov_self]

theorem wy_bad (h : ¬ b.Good g) : b.wy s y g = 0 := by
  unfold wy y1 y2 realEnd
  rw [if_neg h, if_neg h, ov_self]

/-- What becomes of a box whose corners are not real and ordered. -/
theorem bad_cases (h : ¬ b.Good g) : (∀ s x, b.wX s x g = 0) ∨ (∀ s y, b.wY s y g = 0) ∨ ∀ s, b.CE s g = ⊤ := by
  rcases le_or_gt (b.X2 g) (b.X1 g) with hx | hx
  · exact .inl fun s x => rov_zero _ _ hx
  rcases le_or_gt (b.Y2 g) (b.Y1 g) with hy | hy
  · exact .inr (.inl fun s y => rov_zero _ _ hy)
  refine .inr (.inr fun s => ?_)
  have area : (b.X2 g - b.X1 g) * (b.Y2 g - b.Y1 g) = ⊤ := by
    by_cases hs : Seg (b.X1 g) (b.X2 g)
    · rw [length_top hy fun h' => h ⟨hs, h'⟩, mul_comm]
      exact EReal.top_mul_of_pos (EReal.sub_pos.2 hx)
    · rw [length_top hx hs]
      exact EReal.top_mul_of_pos (EReal.sub_pos.2 hy)
  unfold CE
  rw [area]
  exact EReal.top_add_coe _

theorem div_top (v : EReal) : Ideal.div v ⊤ = 0 := by
  unfold Ideal.div
  rw [if_neg EReal.top_ne_zero, EReal.inv_top, mul_zero]

/-- The share, as the kernel computes it. -/
theorem share (g : Fin 64) : ((b.wY s y g : ℝ) : EReal) * (((b.wX s x g : ℝ) : EReal) * Ideal.div 1 (b.CE s g)) = ((b.q s y x g : ℝ) : EReal) := by
  by_cases h : b.Good g
  · rw [b.wX_good s x h, b.wY_good s y h, b.CE_good s h, div_one_coe (by linarith [b.C_pos s g]), ← EReal.coe_mul, ← EReal.coe_mul]
    rfl
  · have hq : b.q s y x g = 0 := by unfold q; rw [b.wy_bad s y h, zero_mul]
    rw [hq, EReal.coe_zero]
    rcases b.bad_cases h with e | e | e
    · rw [e, EReal.coe_zero, zero_mul, mul_zero]
    · rw [e, EReal.coe_zero, zero_mul]
    · rw [e, div_top, mul_zero, mul_zero]

/-- The ratio of a box that is not real and ordered, from overlaps that occur. -/
theorem ratio_bad (h : ¬ b.Good g) : Ideal.div ((b.wX s x g * b.wY s y g : ℝ) : EReal)
    (max (b.CE s g - ((b.wX s x g * b.wY s y g : ℝ) : EReal)) (eps : EReal)) = 0 := by
  have zero : ∀ v : EReal, Ideal.div 0 (max v (eps : EReal)) = 0 := fun v => by
    unfold Ideal.div
    rw [if_neg (ne_of_gt (lt_max_of_lt_right (EReal.coe_pos.2 eps_pos))), zero_mul]
  rcases b.bad_cases h with e | e | e
  · rw [e, zero_mul, EReal.coe_zero, zero]
  · rw [e, mul_zero, EReal.coe_zero, zero]
  · rw [e, EReal.top_sub_coe, max_eq_left le_top, div_top]

/-- The ratio of a real and ordered box, from any overlaps. -/
theorem ratio_good (h : b.Good g) (r : ℝ) : Ideal.div (r : EReal) (max (b.CE s g - (r : EReal)) (eps : EReal)) =
    ((r / max (b.C s g - r) eps : ℝ) : EReal) := by
  rw [b.CE_good s h, ← EReal.coe_sub, coe_max, div_coe_coe _ (ne_of_gt (lt_max_of_lt_right eps_pos))]

/-- The ratio, as the reference computes it. -/
theorem ratio (g : Fin 64) : Ideal.div ((b.wX s x g * b.wY s y g : ℝ) : EReal)
    (max (b.CE s g - ((b.wX s x g * b.wY s y g : ℝ) : EReal)) (eps : EReal)) = ((b.iou s y x g eps : ℝ) : EReal) := by
  by_cases h : b.Good g
  · rw [b.ratio_good s h, b.wX_good s x h, b.wY_good s y h]; rfl
  · rw [b.ratio_bad s y x h]
    unfold iou
    rw [b.wx_bad s x h, zero_mul, zero_div, EReal.coe_zero]

end Boxes

/-- The logarithm of a quotient of a side by an anchor's width. -/
theorem log_div_width (v : EReal) {w : ℝ} (hw : 0 < w) : Ideal.log (Ideal.div (max v (eps : EReal)) (w : EReal)) =
    Ideal.log (max v (eps : EReal)) - ((Real.log w : ℝ) : EReal) := by
  have hp : (eps : EReal) ≤ max v (eps : EReal) := le_max_right _ _
  generalize max v (eps : EReal) = u at hp
  induction u with
  | bot => exact absurd hp (not_le.2 (EReal.bot_lt_coe _))
  | top =>
    rw [Ideal.div_coe hw.ne', EReal.top_mul_of_pos (EReal.coe_pos.2 (one_div_pos.2 hw))]
    exact (EReal.top_sub_coe _).symm
  | coe u =>
    have hu : 0 < u := lt_of_lt_of_le eps_pos (EReal.coe_le_coe_iff.1 hp)
    rw [div_coe_coe _ hw.ne', log_coe_pos (div_pos hu hw), log_coe_pos hu, Real.log_div hu.ne' hw.ne', EReal.coe_sub]

end Cert.Loss
-- ==== Proof.PrepRead.lean ====
module

public import proofs.«01_k».proof.Proof.Prep
public import proofs.«01_k».proof.Proof.Corners

/-!
The preparation read in numbers.
-/

@[expose] public section

namespace Cert.KernelPrep

open Idealize.ShloMosaic Cert.KernelIdeal Cert.KernelIdeal.Gen Cert.Loss

/-- Box number `g` among a hundred and twenty-eight lanes. -/
def lane (g : Fin 64) : Fin 128 := ⟨g.val, by omega⟩

/-- The two small arrays of boxes hold `b`. -/
structure HoldsK (tb : FVec Ideal S64x4 .f32) (tr : FVec Ideal S8x128 .f32) (b : Boxes) : Prop where
  x1 : ∀ g, tb (ix2 g 0) = b.X1 g
  y1 : ∀ g, tb (ix2 g 1) = b.Y1 g
  x2 : ∀ g, tb (ix2 g 2) = b.X2 g
  y2 : ∀ g, tb (ix2 g 3) = b.Y2 g
  ty1 : ∀ g, tr (ix2 1 (lane g)) = b.Y1 g
  ty2 : ∀ g, tr (ix2 3 (lane g)) = b.Y2 g

theorem sitofp_fin (x : Fin 128) : FloatOps.sitofp (F := Ideal) FTy.f32 (BitVec.ofNat 32 x.val) = (((x.val : ℕ) : ℝ) : EReal) := by
  show ((((BitVec.ofNat 32 x.val).toInt : ℤ) : ℝ) : EReal) = _
  have hx := x.isLt
  have : (BitVec.ofNat 32 x.val).toInt = (x.val : ℤ) := by
    rw [BitVec.toInt_eq_toNat_of_lt] <;> simp [BitVec.toNat_ofNat] <;> omega
  rw [this]; simp

theorem cxV_apply (x : Fin 128) : cxV (ix2 0 x) = ((ctr x : ℝ) : EReal) := by
  pointwise [cxV]
  rw [sitofp_fin, Lit.half, Lit.four, ← EReal.coe_add, ← EReal.coe_mul]; rfl

theorem cyV_apply (y : Fin 128) : cyV (ix2 y 0) = ((ctr y : ℝ) : EReal) := by
  pointwise [cyV]
  rw [sitofp_fin, Lit.half, Lit.four, ← EReal.coe_add, ← EReal.coe_mul]; rfl

theorem ovV_apply {h lo hi : _} (r : ℝ) (l u : Fin 64 → EReal) (hh : h = (r : EReal)) (hl : ∀ g, lo (ix2 g 0) = l g)
    (hu : ∀ g, hi (ix2 g 0) = u g) (g : Fin 64) (x : Fin 128) :
    ovV h lo hi (ix2 g x) = ((rov (ctr x) r (l g) (u g) : ℝ) : EReal) := by
  pointwise [ovV, lanes]
  rw [cxV_apply, hh, hl, hu, max_comm, rov_coe]

variable {tb : FVec Ideal S64x4 .f32} {tr : FVec Ideal S8x128 .f32} {b : Boxes} (hb : HoldsK tb tr b)
include hb

theorem g0_apply (g : Fin 64) : g0 tb (ix2 g 0) = b.X1 g := by rw [← hb.x1]; pointwise [g0]
theorem g1_apply (g : Fin 64) : g1 tb (ix2 g 0) = b.Y1 g := by rw [← hb.y1]; pointwise [g1]
theorem g2_apply (g : Fin 64) : g2 tb (ix2 g 0) = b.X2 g := by rw [← hb.x2]; pointwise [g2]
theorem g3_apply (g : Fin 64) : g3 tb (ix2 g 0) = b.Y2 g := by rw [← hb.y2]; pointwise [g3]

variable (s : Fin 3) {h hh : EReal} (eh : h = ((half s : ℝ) : EReal)) (ehh : hh = ((4 * half s * half s : ℝ) : EReal))

include ehh in
theorem areaV_apply (g : Fin 64) : areaV tb hh (ix2 g 0) = b.CE s g := by
  pointwise [areaV]
  rw [g0_apply hb, g1_apply hb, g2_apply hb, g3_apply hb, ehh]; rfl

include eh ehh in
theorem wqV_apply (g : Fin 64) (x : Fin 128) : wqV tb h hh (ix3 0 g x) = ((b.wX s x g : ℝ) : EReal) * Ideal.div 1 (b.CE s g) := by
  pointwise [wqV, lanes]
  rw [ovV_apply (half s) b.X1 b.X2 eh (g0_apply hb) (g2_apply hb), areaV_apply hb s ehh]; rfl

include eh in
theorem wyV_apply (y : Fin 128) (g : Fin 64) : wyV tr h (ix3 0 y (lane g)) = ((b.wY s y g : ℝ) : EReal) := by
  pointwise [wyV]
  rw [cyV_apply, eh, hb.ty1, hb.ty2, max_comm, rov_coe]; rfl

omit hb in
theorem topV_apply {v : Mat} (f : Fin 64 → Fin 128 → ℝ) (hv : ∀ g x, v (ix2 g x) = ((f g x : ℝ) : EReal)) (g : Fin 64) {M : ℝ}
    (hM : IsGreatest (Set.range (f g)) M) : topV v (ix2 g 0) = ((M : ℝ) : EReal) := by
  pointwise [topV]
  simp only [hv]
  rw [Lit.bot_bits]
  exact fold_max_coe _ hM bot_le

/-- The greatest overlap along each axis. -/
noncomputable def topX (b : Boxes) (s : Fin 3) (g : Fin 64) : ℝ := (exists_greatest fun x : Fin 128 => b.wx s x g).choose
noncomputable def topY (b : Boxes) (s : Fin 3) (g : Fin 64) : ℝ := (exists_greatest fun y : Fin 128 => b.wy s y g).choose

omit hb in
theorem topX_spec (g : Fin 64) : IsGreatest (Set.range fun x : Fin 128 => b.wx s x g) (topX b s g) :=
  (exists_greatest fun x : Fin 128 => b.wx s x g).choose_spec
omit hb in
theorem topY_spec (g : Fin 64) : IsGreatest (Set.range fun y : Fin 128 => b.wy s y g) (topY b s g) :=
  (exists_greatest fun y : Fin 128 => b.wy s y g).choose_spec

/-- The best ratio at one size. -/
noncomputable def iouTop (b : Boxes) (s : Fin 3) (g : Fin 64) : ℝ :=
  topX b s g * topY b s g / max (b.C s g - topX b s g * topY b s g) Lit.eps

omit hb in
theorem iouTop_nonneg (g : Fin 64) : 0 ≤ iouTop b s g := by
  obtain ⟨x, hx⟩ := (topX_spec (b := b) s g).1
  obtain ⟨y, hy⟩ := (topY_spec (b := b) s g).1
  refine div_nonneg (mul_nonneg ?_ ?_) (le_max_of_le_right Lit.eps_pos.le)
  · rw [← hx]; exact ov_nonneg ..
  · rw [← hy]; exact ov_nonneg ..

include eh in
theorem interV_apply (g : Fin 64) {tx ty : ℝ} (hX : IsGreatest (Set.range fun x : Fin 128 => b.wX s x g) tx)
    (hY : IsGreatest (Set.range fun y : Fin 128 => b.wY s y g) ty) : interV tb h (ix2 g 0) = ((tx * ty : ℝ) : EReal) := by
  pointwise [interV]
  rw [topV_apply _ (ovV_apply (half s) b.X1 b.X2 eh (g0_apply hb) (g2_apply hb)) g hX,
    topV_apply _ (ovV_apply (half s) b.Y1 b.Y2 eh (g1_apply hb) (g3_apply hb)) g hY, ← EReal.coe_mul]

omit hb in
/-- The best ratio of a box that is not real and ordered. -/
theorem iouTop_bad {g : Fin 64} (h : ¬ b.Good g) : iouTop b s g = 0 := by
  obtain ⟨x, hx⟩ := (topX_spec (b := b) s g).1
  have : topX b s g = 0 := by rw [← hx]; exact b.wx_bad s x h
  unfold iouTop
  rw [this, zero_mul, zero_div]

include eh ehh in
theorem iouV_apply (g : Fin 64) : iouV tb h hh (ix2 g 0) = ((iouTop b s g : ℝ) : EReal) := by
  pointwise [iouV]
  rw [areaV_apply hb s ehh, Lit.eps_bits]
  by_cases hg : b.Good g
  · have hX : IsGreatest (Set.range fun x : Fin 128 => b.wX s x g) (topX b s g) := by
      rw [funext fun x => b.wX_good s x hg]; exact topX_spec s g
    have hY : IsGreatest (Set.range fun y : Fin 128 => b.wY s y g) (topY b s g) := by
      rw [funext fun y => b.wY_good s y hg]; exact topY_spec s g
    rw [interV_apply hb s eh g hX hY, b.ratio_good s hg]; rfl
  · obtain ⟨tx, hX⟩ := exists_greatest fun x : Fin 128 => b.wX s x g
    obtain ⟨ty, hY⟩ := exists_greatest fun y : Fin 128 => b.wY s y g
    rw [interV_apply hb s eh g hX hY]
    obtain ⟨x, rfl⟩ := hX.1
    obtain ⟨y, rfl⟩ := hY.1
    rw [iouTop_bad s hg, EReal.coe_zero]
    exact b.ratio_bad s y x hg

theorem bestV_apply (g : Fin 64) : bestV tb (ix2 g 0) = ((b.best g : ℝ) : EReal) := by
  pointwise [bestV]
  rw [iouV_apply hb 0 (by rw [Lit.n16]; rfl) (by rw [Lit.n1024]; norm_num [half]),
    iouV_apply hb 1 (by rw [Lit.n32]; rfl) (by rw [Lit.n4096]; norm_num [half]),
    iouV_apply hb 2 (by rw [Lit.n64]; rfl) (by rw [Lit.n16384]; congr 1; show (16384 : ℝ) = 4 * 64 * 64; norm_num), Lit.neg_one, coe_max, coe_max, coe_max]
  have h0 := iouTop_nonneg (b := b) 0 g
  have : b.IsBest g Lit.eps (max (max (max (-1) (iouTop b 0 g)) (iouTop b 1 g)) (iouTop b 2 g)) := by
    refine b.isBest_of_axes g Lit.eps_le (fun s => topX_spec s g) (fun s => topY_spec s g) ?_
    rw [max_eq_right (by linarith : (-1 : ℝ) ≤ iouTop b 0 g)]
    constructor
    · rcases max_choice (max (iouTop b 0 g) (iouTop b 1 g)) (iouTop b 2 g) with e | e
      · rcases max_choice (iouTop b 0 g) (iouTop b 1 g) with e' | e'
        · exact ⟨0, by rw [e, e']; rfl⟩
        · exact ⟨1, by rw [e, e']; rfl⟩
      · exact ⟨2, by rw [e]; rfl⟩
    · rintro _ ⟨s, rfl⟩
      fin_cases s
      · exact (le_max_left _ _).trans (le_max_left _ _)
      · exact (le_max_right _ _).trans (le_max_left _ _)
      · exact le_max_right _ _
  rw [this.unique (b.best_spec g)]

theorem lessV_apply (g : Fin 64) : lessV tb (ix2 g 0) = ((b.best g - Lit.del : ℝ) : EReal) := by
  pointwise [lessV]; rw [bestV_apply hb, Lit.del_bits, ← EReal.coe_sub]

theorem thrV_apply (g : Fin 64) : thrV tb (ix2 g 0) = ((Boxes.thr Lit.del (b.best g) : ℝ) : EReal) := by
  pointwise [thrV]
  rw [lessV_apply hb, bestV_apply hb, Lit.third, Lit.del_bits, Lit.two]
  unfold Boxes.thr
  by_cases hd : Lit.del < b.best g
  · rw [if_pos (EReal.coe_lt_coe_iff.2 hd), if_pos hd, ← EReal.coe_one, ← EReal.coe_add,
      div_coe_coe _ (by linarith), coe_min]
  · rw [if_neg (fun h => hd (EReal.coe_lt_coe_iff.1 h)), if_neg hd, coe_min]

theorem mid_x (g : Fin 64) : midV (g0 tb) (g2 tb) (ix2 g 0) = b.mx g := by
  pointwise [midV]; rw [g0_apply hb, g2_apply hb, Lit.half]; rfl
theorem mid_y (g : Fin 64) : midV (g1 tb) (g3 tb) (ix2 g 0) = b.my g := by
  pointwise [midV]; rw [g1_apply hb, g3_apply hb, Lit.half]; rfl
theorem log_x (g : Fin 64) : logV (g0 tb) (g2 tb) (ix2 g 0) = b.lgw g := by
  pointwise [logV]
  rw [g0_apply hb, g2_apply hb, Lit.eps_bits]; rfl
theorem log_y (g : Fin 64) : logV (g1 tb) (g3 tb) (ix2 g 0) = b.lgh g := by
  pointwise [logV]
  rw [g1_apply hb, g3_apply hb, Lit.eps_bits]; rfl

omit hb in
theorem store_apply (v : Col) (g : Fin 64) (x : Fin 128) : store v (ix3 0 g x) = v (ix2 g 0) := by
  pointwise [store, lanes]

end Cert.KernelPrep
-- ==== Proof.TileRead.lean ====
module

public import proofs.«01_k».proof.Proof.Tile
public import proofs.«01_k».proof.Proof.PrepRead

/-!
One tile read at one place: the loop over the boxes is the scalar loop `Loss.run`.
-/

@[expose] public section

namespace Cert.KernelTile

open Idealize.ShloMosaic Cert.KernelIdeal Cert.KernelIdeal.Gen Cert.Loss

section Steps
variable (wy : Tile) (rows thr v : Fin 8 → Slab) (n : ℕ) (r : Fin 32) (x : Fin 128)

theorem shareAt_apply : shareAt wy rows n (ix2 r x) =
    wy (ix2 r (KernelPrep.lane (colOf n))) * rows (slabOf n) (ix2 (rowOf n) x) := by
  pointwise [shareAt, row]
  rfl

theorem spread_apply (w : Slab) (j : Fin 8) : spread w j (ix2 r x) = w (ix2 j x) := by
  pointwise [spread, row]

theorem mAt_succ : mAt wy rows (n + 1) (ix2 r x) = max (mAt wy rows n (ix2 r x)) (shareAt wy rows n (ix2 r x)) := rfl

theorem pmAt_succ : pmAt wy rows thr (n + 1) (ix2 r x) =
    max (pmAt wy rows thr n (ix2 r x)) (shareAt wy rows n (ix2 r x) - thr (slabOf n) (ix2 (rowOf n) x)) := by
  show max _ (_ - broadcastTo S32x128 (row (thr (slabOf n)) (rowOf n)) broadcasts_S1x128_S32x128 (ix2 r x)) = _
  congr 2
  pointwise [row]

theorem pickAt_succ : pickAt wy rows v (n + 1) (ix2 r x) =
    if mAt wy rows n (ix2 r x) < shareAt wy rows n (ix2 r x) then v (slabOf n) (ix2 (rowOf n) x) else pickAt wy rows v n (ix2 r x) := by
  rw [← spread_apply r x (v (slabOf n)) (rowOf n)]
  show select (cmpf .ogt (shareAt wy rows n) (mAt wy rows n)) (spread (v (slabOf n)) (rowOf n)) (pickAt wy rows v n) (ix2 r x) = _
  generalize shareAt wy rows n = p
  generalize mAt wy rows n = q
  generalize spread (v (slabOf n)) (rowOf n) = w
  generalize pickAt wy rows v n = u
  pointwise []
end Steps

/-- Box number `j` of slab `G`; row number `r` of tile `ti`. -/
def boxNo (G j : Fin 8) : Fin 64 := ⟨8 * G.val + j.val, by omega⟩
def rowNo (ti : Fin 4) (r : Fin 32) : Fin 128 := ⟨32 * ti.val + r.val, by omega⟩

theorem boxNo_slab (n : ℕ) : boxNo (slabOf n) (rowOf n) = colOf n := by
  apply Fin.ext
  show 8 * (n / 8 % 8) + n % 8 = n % 64
  omega

theorem colOf_val (g : Fin 64) : colOf g.val = g := Fin.ext (Nat.mod_eq_of_lt g.isLt)

section Loop
variable (b : Boxes) (s : Fin 3) (y x : Fin 128)

/-- The scalar loop of an anchor. -/
noncomputable def loop : ℕ → St :=
  run (fun n => ((b.q s y x (colOf n) : ℝ) : EReal)) (fun n => ((Boxes.thr Lit.del (b.best (colOf n)) : ℝ) : EReal))
    (fun n => b.mx (colOf n)) (fun n => b.my (colOf n)) (fun n => b.lgw (colOf n))
    (fun n => b.lgh (colOf n))

theorem loop_pm : 0 ≤ (loop b s y x 64).pm ↔ ∃ g, 0 ≤ b.q s y x g - Boxes.thr Lit.del (b.best g) := by
  unfold loop
  rw [run_pm]
  simp only [← EReal.coe_sub, ← EReal.coe_zero, EReal.coe_le_coe_iff]
  constructor
  · rintro ⟨j, -, h⟩; exact ⟨_, h⟩
  · rintro ⟨g, h⟩; exact ⟨g.val, g.isLt, by rw [colOf_val]; exact h⟩

theorem loop_first : (loop b s y x 64).m = ((b.q s y x (b.first s y x) : ℝ) : EReal) ∧
    (loop b s y x 64).a = b.mx (b.first s y x) ∧ (loop b s y x 64).b = b.my (b.first s y x) ∧
    (loop b s y x 64).c = b.lgw (b.first s y x) ∧ (loop b s y x 64).d = b.lgh (b.first s y x) := by
  obtain ⟨k, hk, h1, h2, e⟩ := run_spec (fun n => ((b.q s y x (colOf n) : ℝ) : EReal)) (fun n => ((Boxes.thr Lit.del (b.best (colOf n)) : ℝ) : EReal))
    (fun n => b.mx (colOf n)) (fun n => b.my (colOf n)) (fun n => b.lgw (colOf n))
    (fun n => b.lgh (colOf n))
    (fun n => EReal.coe_lt_coe_iff.2 (lt_of_lt_of_le (by norm_num) (b.q_nonneg s y x (colOf n)))) 63
  have : colOf k = b.first s y x := by
    refine IsFirst.unique ⟨fun g => ?_, fun g hg => ?_⟩ (b.first_spec s y x)
    · have := EReal.coe_le_coe_iff.1 (h1 g.val (by omega)); rwa [colOf_val] at this
    · have hg' : g.val < k % 64 := hg
      have := EReal.coe_lt_coe_iff.1 (h2 g.val (by omega)); rwa [colOf_val] at this
  rw [← this]
  exact e
end Loop

section Read
variable {b : Boxes} {s : Fin 3} {ti : Fin 4} {wy : Tile} {rows thr v1 v2 v3 v4 : Fin 8 → Slab}
  (hwy : ∀ r g, wy (ix2 r (KernelPrep.lane g)) = ((b.wY s (rowNo ti r) g : ℝ) : EReal))
  (hrows : ∀ G j x, rows G (ix2 j x) = ((b.wX s x (boxNo G j) : ℝ) : EReal) * Ideal.div 1 (b.CE s (boxNo G j)))
  (hthr : ∀ G j x, thr G (ix2 j x) = ((Boxes.thr Lit.del (b.best (boxNo G j)) : ℝ) : EReal))
  (h1 : ∀ G j x, v1 G (ix2 j x) = b.mx (boxNo G j))
  (h2 : ∀ G j x, v2 G (ix2 j x) = b.my (boxNo G j))
  (h3 : ∀ G j x, v3 G (ix2 j x) = b.lgw (boxNo G j))
  (h4 : ∀ G j x, v4 G (ix2 j x) = b.lgh (boxNo G j))
  (n : ℕ) (r : Fin 32) (x : Fin 128)

include hwy hrows

theorem share_q : shareAt wy rows n (ix2 r x) = ((b.q s (rowNo ti r) x (colOf n) : ℝ) : EReal) := by
  rw [shareAt_apply, hwy, hrows, boxNo_slab]
  exact b.share ..

theorem m_loop : mAt wy rows n (ix2 r x) = (loop b s (rowNo ti r) x n).m := by
  induction n with
  | zero => exact Lit.neg_one
  | succ n ih => rw [mAt_succ, ih, share_q hwy hrows]; rfl

include hthr in
theorem pm_loop : pmAt wy rows thr n (ix2 r x) = (loop b s (rowNo ti r) x n).pm := by
  induction n with
  | zero => exact Lit.neg_two
  | succ n ih => rw [pmAt_succ, ih, share_q hwy hrows, hthr, boxNo_slab]; rfl

include h1 in
theorem pick1_loop : pickAt wy rows v1 n (ix2 r x) = (loop b s (rowNo ti r) x n).a := by
  induction n with
  | zero => exact Ideal.ofBits_zero_f32
  | succ n ih => rw [pickAt_succ, ih, m_loop hwy hrows, share_q hwy hrows, h1, boxNo_slab]; rfl

include h2 in
theorem pick2_loop : pickAt wy rows v2 n (ix2 r x) = (loop b s (rowNo ti r) x n).b := by
  induction n with
  | zero => exact Ideal.ofBits_zero_f32
  | succ n ih => rw [pickAt_succ, ih, m_loop hwy hrows, share_q hwy hrows, h2, boxNo_slab]; rfl

include h3 in
theorem pick3_loop : pickAt wy rows v3 n (ix2 r x) = (loop b s (rowNo ti r) x n).c := by
  induction n with
  | zero => exact Ideal.ofBits_zero_f32
  | succ n ih => rw [pickAt_succ, ih, m_loop hwy hrows, share_q hwy hrows, h3, boxNo_slab]; rfl

include h4 in
theorem pick4_loop : pickAt wy rows v4 n (ix2 r x) = (loop b s (rowNo ti r) x n).d := by
  induction n with
  | zero => exact Ideal.ofBits_zero_f32
  | succ n ih => rw [pickAt_succ, ih, m_loop hwy hrows, share_q hwy hrows, h4, boxNo_slab]; rfl
end Read

end Cert.KernelTile
-- ==== Proof.TileTerms.lean ====
module

public import proofs.«01_k».proof.Proof.TileRead

/-!
One tile's terms and their sum, from the loops' results.
-/

@[expose] public section

namespace Cert.KernelTile

open Idealize.ShloMosaic Cert.KernelIdeal Cert.KernelIdeal.Gen Cert.Loss

theorem total_eq (v : Tile) : total v = ∑ r : Fin 32, ∑ x : Fin 128, v (ix2 r x) := by
  unfold total
  pointwise []

theorem sitofp_bit (p : Prop) [Decidable p] : FloatOps.sitofp (F := Ideal) FTy.f32 (BitVec.setWidth 32 (BitVec.ofBool (decide p))) = bit p := by
  show ((((BitVec.setWidth 32 (BitVec.ofBool (decide p))).toInt : ℤ) : ℝ) : EReal) = _
  unfold bit
  by_cases h : p <;> simp [h]

section
variable {b : Boxes} {s : Fin 3} {ti : Fin 4} {h far w lw : EReal} {cx : Row} {cy : FVec Ideal S128x1 .f32} {m pm a1 a2 a3 a4 : Tile}
  (eh : h = ((half s : ℝ) : EReal)) (ef : far = ((512 - half s : ℝ) : EReal)) (ew : w = ((2 * half s : ℝ) : EReal))
  (el : lw = ((Real.log (2 * half s) : ℝ) : EReal))
  (hcx : ∀ x, cx (ix2 0 x) = ((ctr x : ℝ) : EReal)) (hcy : ∀ y, cy (ix2 y 0) = ((ctr y : ℝ) : EReal))
  (hm : ∀ r x, m (ix2 r x) = (loop b s (rowNo ti r) x 64).m) (hpm : ∀ r x, pm (ix2 r x) = (loop b s (rowNo ti r) x 64).pm)
  (h1 : ∀ r x, a1 (ix2 r x) = (loop b s (rowNo ti r) x 64).a) (h2 : ∀ r x, a2 (ix2 r x) = (loop b s (rowNo ti r) x 64).b)
  (h3 : ∀ r x, a3 (ix2 r x) = (loop b s (rowNo ti r) x 64).c) (h4 : ∀ r x, a4 (ix2 r x) = (loop b s (rowNo ti r) x 64).d)
  (r : Fin 32) (x : Fin 128)

include hcy in
theorem rowsOf_apply : rowsOf ti cy (ix2 r 0) = ((ctr (rowNo ti r) : ℝ) : EReal) := by
  rw [← hcy]
  pointwise [rowsOf]
  rfl

include eh ef hcx hcy

open Classical in
theorem inside_apply : inside h far ti cx cy (ix2 r x) = BitVec.ofBool (decide (Inside s (rowNo ti r) x)) := by
  pointwise [inside]
  rw [rowsOf_apply hcy, hcx, eh, ef]
  simp only [EReal.coe_le_coe_iff, Inside, andi_ofBool]
  exact ofBool_congr Iff.rfl

include hpm in
open Classical in
theorem pos_apply : pos h far ti cx cy pm (ix2 r x) = BitVec.ofBool (decide (b.Pos s (rowNo ti r) x)) := by
  pointwise [pos]
  rw [inside_apply eh ef hcx hcy, hpm]
  simp only [loop_pm, Boxes.Pos, andi_ofBool]
  exact ofBool_congr Iff.rfl

include hpm hm in
open Classical in
theorem neg_apply : neg h far ti cx cy m pm (ix2 r x) = BitVec.ofBool (decide (b.Neg s (rowNo ti r) x)) := by
  pointwise [neg]
  rw [pos_apply eh ef hcx hcy hpm, inside_apply eh ef hcx hcy, hm, (loop_first _ _ _ _).1, Lit.neg_threshold]
  simp only [EReal.coe_lt_coe_iff, Boxes.Neg, xori_ofBool, andi_ofBool]
  exact ofBool_congr Iff.rfl

include hpm in
theorem posf_apply : posf h far ti cx cy pm (ix2 r x) = b.posf s (rowNo ti r) x := by
  classical
  pointwise [posf]
  rw [pos_apply eh ef hcx hcy hpm, sitofp_bit]; rfl

include hpm hm in
theorem weight_apply : weight h far ti cx cy m pm (ix2 r x) = b.lw s (rowNo ti r) x := by
  classical
  pointwise [weight]
  rw [posf_apply eh ef hcx hcy hpm, neg_apply eh ef hcx hcy hm hpm, sitofp_bit]; rfl

include hpm hm in
theorem clsV_apply (cls : FVec Ideal S1x1x32x128 .f32) :
    clsV h far ti cx cy m pm cls (ix2 r x) = b.clsTerm s (rowNo ti r) x (cls (ix4 0 0 r x)) := by
  pointwise [clsV]
  rw [posf_apply eh ef hcx hcy hpm, weight_apply eh ef hcx hcy hm hpm, Ideal.absf_def, zero_sub]; rfl

include hpm ew el h1 h2 h3 h4 in
theorem boxV_apply (reg : FVec Ideal S1x4x32x128 .f32) :
    boxV h far w lw ti cx cy pm a1 a2 a3 a4 reg (ix2 r x) = b.boxTerm s (rowNo ti r) x fun k => reg (ix4 0 k r x) := by
  obtain ⟨-, e1, e2, e3, e4⟩ := loop_first b s (rowNo ti r) x
  pointwise [boxV, distV]
  rw [posf_apply eh ef hcx hcy hpm, rowsOf_apply hcy, hcx, h1, h2, h3, h4, e1, e2, e3, e4, ew, el]
  simp only [Ideal.absf_def]
  rfl
end

end Cert.KernelTile
-- ==== Proof.KernelSum.lean ====
module

public import proofs.«01_k».proof.Proof.TileTerms

/-!
The twelve tiles of a picture make its three sums.
-/

@[expose] public section

namespace Cert.KernelTile

open Idealize.ShloMosaic Cert.KernelIdeal Cert.KernelIdeal.Gen Cert.Loss

/-- A sum over the rows, tile by tile. -/
theorem sum_rows (f : Fin 128 → EReal) : ∑ y, f y = ∑ ti : Fin 4, ∑ r : Fin 32, f (rowNo ti r) := by
  rw [← Fintype.sum_prod_type', ← Equiv.sum_comp (finProdFinEquiv (m := 4) (n := 32)) f]
  refine Finset.sum_congr rfl fun p _ => congrArg f (Fin.ext ?_)
  show p.2.val + 32 * p.1.val = 32 * p.1.val + p.2.val
  omega

/-- What the tiles of one picture read. -/
structure HoldsL (b : Boxes) (wyL : Fin 3 → Fin 4 → FVec Ideal S1x32x128 .f32) (wqL : Fin 3 → Fin 8 → FVec Ideal S1x8x128 .f32)
    (scL : Fin 5 → Fin 8 → FVec Ideal S1x8x128 .f32) : Prop where
  wy : ∀ s ti r g, wyL s ti (ix3 0 r (KernelPrep.lane g)) = ((b.wY s (rowNo ti r) g : ℝ) : EReal)
  wq : ∀ s G j x, wqL s G (ix3 0 j x) = ((b.wX s x (boxNo G j) : ℝ) : EReal) * Ideal.div 1 (b.CE s (boxNo G j))
  thr : ∀ G j x, scL 0 G (ix3 0 j x) = ((Boxes.thr Lit.del (b.best (boxNo G j)) : ℝ) : EReal)
  mx : ∀ G j x, scL 1 G (ix3 0 j x) = b.mx (boxNo G j)
  my : ∀ G j x, scL 2 G (ix3 0 j x) = b.my (boxNo G j)
  lgw : ∀ G j x, scL 3 G (ix3 0 j x) = b.lgw (boxNo G j)
  lgh : ∀ G j x, scL 4 G (ix3 0 j x) = b.lgh (boxNo G j)

section
variable {b : Boxes} {wyL : Fin 3 → Fin 4 → FVec Ideal S1x32x128 .f32} {wqL : Fin 3 → Fin 8 → FVec Ideal S1x8x128 .f32}
  {scL : Fin 5 → Fin 8 → FVec Ideal S1x8x128 .f32} (hl : HoldsL b wyL wqL scL)
  (clsL : Fin 3 → Fin 4 → FVec Ideal S1x1x32x128 .f32) (regL : Fin 3 → Fin 4 → FVec Ideal S1x4x32x128 .f32)
  (c : Fin 3 → Fin 128 → Fin 128 → EReal) (q : Fin 3 → Fin 4 → Fin 128 → Fin 128 → EReal)
  (hc : ∀ s ti r x, clsL s ti (ix4 0 0 r x) = c s (rowNo ti r) x) (hq : ∀ s ti k r x, regL s ti (ix4 0 k r x) = q s k (rowNo ti r) x)
  {h far w lw : EReal} {cx : Row} {cy : FVec Ideal S128x1 .f32} (s : Fin 3) (ti : Fin 4) (r : EReal)
  (eh : h = ((half s : ℝ) : EReal)) (ef : far = ((512 - half s : ℝ) : EReal)) (ew : w = ((2 * half s : ℝ) : EReal))
  (el : lw = ((Real.log (2 * half s) : ℝ) : EReal))
  (hcx : ∀ x, cx (ix2 0 x) = ((ctr x : ℝ) : EReal)) (hcy : ∀ y, cy (ix2 y 0) = ((ctr y : ℝ) : EReal))

include hl

theorem wyT_apply (i : Fin 32) (g : Fin 64) : wyT wyL s ti (ix2 i (KernelPrep.lane g)) = ((b.wY s (rowNo ti i) g : ℝ) : EReal) := by
  rw [← hl.wy]; pointwise [wyT]
theorem rowsL_apply (G j : Fin 8) (x : Fin 128) :
    rowsL wqL s G (ix2 j x) = ((b.wX s x (boxNo G j) : ℝ) : EReal) * Ideal.div 1 (b.CE s (boxNo G j)) := by
  rw [← hl.wq]; pointwise [rowsL]

omit hl in
theorem scS_apply (k : Fin 5) (G j : Fin 8) (x : Fin 128) : scS scL k G (ix2 j x) = scL k G (ix3 0 j x) := by
  pointwise [scS]

theorem mF_apply (i : Fin 32) (x : Fin 128) : mF wyL wqL s ti (ix2 i x) = (loop b s (rowNo ti i) x 64).m :=
  m_loop (wyT_apply hl s ti) (rowsL_apply hl s) ..
theorem pmF_apply (i : Fin 32) (x : Fin 128) : pmF wyL wqL scL s ti (ix2 i x) = (loop b s (rowNo ti i) x 64).pm :=
  pm_loop (wyT_apply hl s ti) (rowsL_apply hl s) (fun G j x => (scS_apply 0 G j x).trans (hl.thr G j x)) ..
theorem pick1_apply (i : Fin 32) (x : Fin 128) : pickF wyL wqL scL s ti 1 (ix2 i x) = (loop b s (rowNo ti i) x 64).a :=
  pick1_loop (wyT_apply hl s ti) (rowsL_apply hl s) (fun G j x => (scS_apply 1 G j x).trans (hl.mx G j x)) ..
theorem pick2_apply (i : Fin 32) (x : Fin 128) : pickF wyL wqL scL s ti 2 (ix2 i x) = (loop b s (rowNo ti i) x 64).b :=
  pick2_loop (wyT_apply hl s ti) (rowsL_apply hl s) (fun G j x => (scS_apply 2 G j x).trans (hl.my G j x)) ..
theorem pick3_apply (i : Fin 32) (x : Fin 128) : pickF wyL wqL scL s ti 3 (ix2 i x) = (loop b s (rowNo ti i) x 64).c :=
  pick3_loop (wyT_apply hl s ti) (rowsL_apply hl s) (fun G j x => (scS_apply 3 G j x).trans (hl.lgw G j x)) ..
theorem pick4_apply (i : Fin 32) (x : Fin 128) : pickF wyL wqL scL s ti 4 (ix2 i x) = (loop b s (rowNo ti i) x 64).d :=
  pick4_loop (wyT_apply hl s ti) (rowsL_apply hl s) (fun G j x => (scS_apply 4 G j x).trans (hl.lgh G j x)) ..

include eh ef hcx hcy

include hc in
theorem clsAdd_eq : clsAdd wyL wqL scL clsL h far cx cy s ti r =
    r + ∑ i : Fin 32, ∑ x : Fin 128, b.clsTerm s (rowNo ti i) x (c s (rowNo ti i) x) := by
  unfold clsAdd
  rw [total_eq]
  refine congrArg (r + ·) (Finset.sum_congr rfl fun i _ => Finset.sum_congr rfl fun x _ => ?_)
  rw [clsV_apply eh ef hcx hcy (mF_apply hl s ti) (pmF_apply hl s ti), hc]

include hq ew el in
theorem boxAdd_eq : boxAdd wyL wqL scL regL h far w lw cx cy s ti r =
    r + ∑ i : Fin 32, ∑ x : Fin 128, b.boxTerm s (rowNo ti i) x (fun k => q s k (rowNo ti i) x) := by
  unfold boxAdd
  rw [total_eq]
  refine congrArg (r + ·) (Finset.sum_congr rfl fun i _ => Finset.sum_congr rfl fun x _ => ?_)
  rw [boxV_apply eh ef ew el hcx hcy (pmF_apply hl s ti) (pick1_apply hl s ti) (pick2_apply hl s ti) (pick3_apply hl s ti) (pick4_apply hl s ti)]
  simp only [hq]

theorem numAdd_eq : numAdd wyL wqL scL h far cx cy s ti r = r + ∑ i : Fin 32, ∑ x : Fin 128, b.lw s (rowNo ti i) x := by
  unfold numAdd
  rw [total_eq]
  refine congrArg (r + ·) (Finset.sum_congr rfl fun i _ => Finset.sum_congr rfl fun x _ => ?_)
  rw [weight_apply eh ef hcx hcy (mF_apply hl s ti) (pmF_apply hl s ti)]

include hc in
theorem clsSize_eq : clsSize wyL wqL scL clsL h far cx cy s r = r + ∑ y, ∑ x, b.clsTerm s y x (c s y x) := by
  unfold clsSize
  simp only [clsAdd_eq hl clsL c hc s _ _ eh ef hcx hcy]
  rw [sum_rows, Fin.sum_univ_four]
  simp only [add_assoc]

include hq ew el in
theorem boxSize_eq : boxSize wyL wqL scL regL h far w lw cx cy s r = r + ∑ y, ∑ x, b.boxTerm s y x (fun k => q s k y x) := by
  unfold boxSize
  simp only [boxAdd_eq hl regL q hq s _ _ eh ef ew el hcx hcy]
  rw [sum_rows, Fin.sum_univ_four]
  simp only [add_assoc]

theorem numSize_eq : numSize wyL wqL scL h far cx cy s r = r + ∑ y, ∑ x, b.lw s y x := by
  unfold numSize
  simp only [numAdd_eq hl s _ _ eh ef hcx hcy]
  rw [sum_rows, Fin.sum_univ_four]
  simp only [add_assoc]

end

section
variable {b : Boxes} {wyL : Fin 3 → Fin 4 → FVec Ideal S1x32x128 .f32} {wqL : Fin 3 → Fin 8 → FVec Ideal S1x8x128 .f32}
  {scL : Fin 5 → Fin 8 → FVec Ideal S1x8x128 .f32} (hl : HoldsL b wyL wqL scL)
  (clsL : Fin 3 → Fin 4 → FVec Ideal S1x1x32x128 .f32) (regL : Fin 3 → Fin 4 → FVec Ideal S1x4x32x128 .f32)
  (c : Fin 3 → Fin 128 → Fin 128 → EReal) (q : Fin 3 → Fin 4 → Fin 128 → Fin 128 → EReal)
  (hc : ∀ s ti r x, clsL s ti (ix4 0 0 r x) = c s (rowNo ti r) x) (hq : ∀ s ti k r x, regL s ti (ix4 0 k r x) = q s k (rowNo ti r) x)

theorem h0 : Scalar.ofBits (F := Ideal) .f32 0x41800000#32 = ((half 0 : ℝ) : EReal) := Lit.n16
theorem h1 : Scalar.ofBits (F := Ideal) .f32 0x42000000#32 = ((half 1 : ℝ) : EReal) := Lit.n32
theorem h2 : Scalar.ofBits (F := Ideal) .f32 0x42800000#32 = ((half 2 : ℝ) : EReal) := Lit.n64
theorem f0 : Scalar.ofBits (F := Ideal) .f32 0x43F80000#32 = ((512 - half 0 : ℝ) : EReal) :=
  Lit.n496.trans (by congr 1; show (496 : ℝ) = 512 - 16; norm_num)
theorem f1 : Scalar.ofBits (F := Ideal) .f32 0x43F00000#32 = ((512 - half 1 : ℝ) : EReal) :=
  Lit.n480.trans (by congr 1; show (480 : ℝ) = 512 - 32; norm_num)
theorem f2 : Scalar.ofBits (F := Ideal) .f32 0x43E00000#32 = ((512 - half 2 : ℝ) : EReal) :=
  Lit.n448.trans (by congr 1; show (448 : ℝ) = 512 - 64; norm_num)
theorem t0 : (2 * half 0 : ℝ) = 32 := by show (2 * 16 : ℝ) = 32; norm_num
theorem t1 : (2 * half 1 : ℝ) = 64 := by show (2 * 32 : ℝ) = 64; norm_num
theorem t2 : (2 * half 2 : ℝ) = 128 := by show (2 * 64 : ℝ) = 128; norm_num
theorem w0 : Scalar.ofBits (F := Ideal) .f32 0x42000000#32 = ((2 * half 0 : ℝ) : EReal) := Lit.n32.trans (by rw [t0])
theorem w1 : Scalar.ofBits (F := Ideal) .f32 0x42800000#32 = ((2 * half 1 : ℝ) : EReal) := Lit.n64.trans (by rw [t1])
theorem w2 : Scalar.ofBits (F := Ideal) .f32 0x43000000#32 = ((2 * half 2 : ℝ) : EReal) := Lit.n128.trans (by rw [t2])

include hl

include hc in
theorem clsAll_eq : clsAll wyL wqL scL clsL KernelPrep.cxV KernelPrep.cyV = clsSum b c := by
  unfold clsAll
  rw [clsSize_eq hl clsL c hc 2 _ h2 f2 KernelPrep.cxV_apply KernelPrep.cyV_apply,
    clsSize_eq hl clsL c hc 1 _ h1 f1 KernelPrep.cxV_apply KernelPrep.cyV_apply,
    clsSize_eq hl clsL c hc 0 _ h0 f0 KernelPrep.cxV_apply KernelPrep.cyV_apply]
  unfold clsSum
  rw [Fin.sum_univ_three]
  exact congrArg (· + _) (congrArg (· + _) ((congrArg (· + _) Ideal.ofBits_zero_f32).trans (zero_add _)))

include hq in
theorem boxAll_eq : boxAll wyL wqL scL regL KernelPrep.cxV KernelPrep.cyV = boxSum b q := by
  unfold boxAll
  rw [boxSize_eq hl regL q hq 2 _ h2 f2 w2 (Lit.log_128.trans (by rw [t2])) KernelPrep.cxV_apply KernelPrep.cyV_apply,
    boxSize_eq hl regL q hq 1 _ h1 f1 w1 (Lit.log_64.trans (by rw [t1])) KernelPrep.cxV_apply KernelPrep.cyV_apply,
    boxSize_eq hl regL q hq 0 _ h0 f0 w0 (Lit.log_32.trans (by rw [t0])) KernelPrep.cxV_apply KernelPrep.cyV_apply]
  unfold boxSum
  rw [Fin.sum_univ_three]
  exact congrArg (· + _) (congrArg (· + _) ((congrArg (· + _) Ideal.ofBits_zero_f32).trans (zero_add _)))

theorem numAll_eq : numAll wyL wqL scL KernelPrep.cxV KernelPrep.cyV = numSum b := by
  unfold numAll
  rw [numSize_eq hl 2 _ h2 f2 KernelPrep.cxV_apply KernelPrep.cyV_apply,
    numSize_eq hl 1 _ h1 f1 KernelPrep.cxV_apply KernelPrep.cyV_apply,
    numSize_eq hl 0 _ h0 f0 KernelPrep.cxV_apply KernelPrep.cyV_apply]
  unfold numSum
  rw [Fin.sum_univ_three]
  exact congrArg (· + _) (congrArg (· + _) ((congrArg (· + _) Ideal.ofBits_zero_f32).trans (zero_add _)))

end

/-- The result row's first three lanes. -/
theorem lanes_apply (a b c : EReal) : lanes a b c (ix2 0 0) = a ∧ lanes a b c (ix2 0 1) = b ∧ lanes a b c (ix2 0 2) = c := by
  refine ⟨?_, ?_, ?_⟩ <;> pointwise [lanes]
  · exact (add_zero _).trans (add_zero _)
  · exact (add_zero _).trans (zero_add _)
  · exact (congrArg (· + c) (add_zero (0 : EReal))).trans (zero_add _)

end Cert.KernelTile
-- ==== Proof.LoadRead.lean ====
module

public import proofs.«01_k».proof.Proof.Stores
public import proofs.«01_k».proof.Proof.KernelSum
public import Idealize.ShloMosaic.Lib.Pipeline.Value

/-!
What the tiles' loads find: the planes stored in the scratch arrays, and the blocks of outputs.
-/

@[expose] public section

namespace Cert.KernelBlock

open Idealize.ShloMosaic Cert.KernelIdeal Cert.KernelIdeal.Gen Cert.KernelTile Cert.KernelPrep Cert.Loss

section Planes
variable {K N : ℕ} (P : Fin K → (⟨3, ![1, N, 128]⟩ : Shape).Idx → EReal)

theorem inb_plane (s : Fin K) : ∀ a, (![s.val, 0, 0] : Fin 3 → Nat) a + (⟨3, ![1, N, 128]⟩ : Shape).size a ≤ (⟨3, ![K, N, 128]⟩ : Shape).size a := by
  intro a
  fin_cases a
  · exact s.isLt
  · exact (Nat.zero_add N).le
  · exact le_rfl

/-- Plane `s` of an array, holding `P s`. -/
def plane (s : Fin K) : View.Piece (Elt Ideal) (⟨3, ![K, N, 128]⟩ : Shape) .f32 :=
  ⟨Rect.unit (s := ⟨3, ![K, N, 128]⟩) ![s.val, 0, 0] (⟨3, ![1, N, 128]⟩ : Shape).size (inb_plane s), P s⟩

/-- An array whose planes have been stored one after another reads as the planes. -/
theorem canon_planes (L : List (View.Piece (Elt Ideal) (⟨3, ![K, N, 128]⟩ : Shape) .f32)) (hL : ∀ p ∈ L, ∃ s, p = plane P s)
    (s : Fin K) (hs : plane P s ∈ L) (g : Fin N) (x : Fin 128) : View.canon L (ix3 s g x) = P s (ix3 0 g x) := by
  have key : ∀ s, ∀ y, (plane P s).2 y =
      (fun z : (⟨3, ![K, N, 128]⟩ : Shape).Idx => P (z 0) (ix3 0 (z 1) (z 2))) ((plane P s).1.emb y) := by
    intro s y
    have e0 : (plane P s).1.emb y 0 = s := Fin.ext (by
      show s.val + 1 * (y 0).val = s.val
      have : (y 0).val < 1 := (y 0).isLt
      omega)
    have e1 : (plane P s).1.emb y 1 = y 1 := Fin.ext (by show 0 + 1 * (y 1).val = (y 1).val; omega)
    have e2 : (plane P s).1.emb y 2 = y 2 := Fin.ext (by show 0 + 1 * (y 2).val = (y 2).val; omega)
    show P s y = P ((plane P s).1.emb y 0) (ix3 0 ((plane P s).1.emb y 1) ((plane P s).1.emb y 2))
    rw [e0, e1, e2]
    congr 1
    funext a
    fin_cases a
    · exact Subsingleton.elim (α := Fin 1) _ _
    · rfl
    · rfl
  refine (View.canon_apply_of_pieces (fun z : (⟨3, ![K, N, 128]⟩ : Shape).Idx => P (z 0) (ix3 0 (z 1) (z 2))) L ?_ (ix3 s g x) ⟨_, hs, ?_⟩).trans rfl
  · intro p hp
    obtain ⟨s, rfl⟩ := hL p hp
    exact key s
  · unfold plane
    rw [Rect.mem_set_unit]
    intro a
    fin_cases a
    · exact ⟨le_rfl, Nat.lt_succ_self _⟩
    · exact ⟨Nat.zero_le _, lt_of_lt_of_eq g.isLt (Nat.zero_add _).symm⟩
    · exact ⟨Nat.zero_le _, lt_of_lt_of_eq x.isLt (Nat.zero_add _).symm⟩
end Planes

section
variable {c : Dev nD} {arg1 : Memref sig .tc .vmem S1x3x128x128 .f32} {harg1 : arg1.IsWhole}
  {arg2 : Memref sig .tc .vmem S1x12x128x128 .f32} {harg2 : arg2.IsWhole} {arg3 : Memref sig .tc .vmem S1x64x4 .f32} {harg3 : arg3.IsWhole}
  {arg4 : Memref sig .tc .vmem S1x8x128 .f32} {harg4 : arg4.IsWhole} {arg6 : Memref sig .tc .vmem S3x64x128 .f32}
  {arg7 : Memref sig .tc .vmem S3x128x128 .f32} {arg8 : Memref sig .tc .vmem S5x64x128 .f32}
  {x0 : Vec Ideal S1x3x128x128 .f32} {x1 : Vec Ideal S1x12x128x128 .f32} {x2 : Vec Ideal S1x64x4 .f32} {x3 : Vec Ideal S1x8x128 .f32}

theorem v1_apply (g : Fin 64) (k : Fin 4) : kernelRun0_A.sl.v1 c arg3 harg3 x2 (ix2 g k) = x2 (ix3 0 g k) := by
  unfold kernelRun0_A.sl.v1
  rw [View.readAt_eq_ld, harg3.read_unread, View.ld_unit_zero (by funext a; fin_cases a <;> rfl)]
  pointwise []

theorem v7_apply (k : Fin 8) (g : Fin 128) : kernelRun0_A.sl.v7 c arg4 harg4 x3 (ix2 k g) = x3 (ix3 0 k g) := by
  unfold kernelRun0_A.sl.v7
  rw [View.readAt_eq_ld, harg4.read_unread, View.ld_unit_zero (by funext a; fin_cases a <;> rfl)]
  pointwise []

theorem ldCls_apply (s : Fin 3) (ti : Fin 4) (r : Fin 32) (x : Fin 128) :
    ldCls arg1 harg1 x0 s ti (ix4 0 0 r x) = x0 (ix4 0 s (rowNo ti r) x) := by
  unfold ldCls
  rw [View.readAt_eq_ld, harg1.read_unread]
  refine congrArg x0 (funext fun a => ?_)
  fin_cases a <;> apply Fin.ext
  · rfl
  · exact Nat.add_zero _
  · show 32 * ti.val + 1 * r.val = 32 * ti.val + r.val; omega
  · show 0 + 1 * x.val = x.val; omega

/-- Channel `k` of size `s`. -/
def chan (s : Fin 3) (k : Fin 4) : Fin 12 := ⟨4 * s.val + k.val, by omega⟩

theorem ldReg_apply (s : Fin 3) (ti k : Fin 4) (r : Fin 32) (x : Fin 128) :
    ldReg arg2 harg2 x1 s ti (ix4 0 k r x) = x1 (ix4 0 (chan s k) (rowNo ti r) x) := by
  unfold ldReg
  rw [View.readAt_eq_ld, harg2.read_unread]
  refine congrArg x1 (funext fun a => ?_)
  fin_cases a <;> apply Fin.ext
  · rfl
  · show 4 * s.val + 1 * k.val = 4 * s.val + k.val; omega
  · show 32 * ti.val + 1 * r.val = 32 * ti.val + r.val; omega
  · show 0 + 1 * x.val = x.val; omega

theorem ldWy_plane (s : Fin 3) (ti : Fin 4) (r : Fin 32) (l : Fin 128) :
    ldWy c arg4 harg4 arg7 x3 s ti (ix3 0 r l) = wyV (kernelRun0_A.sl.v7 c arg4 harg4 x3)
      (![Scalar.ofBits (F := Ideal) .f32 0x41800000#32, Scalar.ofBits (F := Ideal) .f32 0x42000000#32, Scalar.ofBits (F := Ideal) .f32 0x42800000#32] s)
      (ix3 0 (rowNo ti r) l) := by
  unfold ldWy
  rw [View.readCov_eq_canon', wy_stores]
  set P : Fin 3 → FVec Ideal S1x128x128 .f32 := fun s => wyV (kernelRun0_A.sl.v7 c arg4 harg4 x3)
    (![Scalar.ofBits (F := Ideal) .f32 0x41800000#32, Scalar.ofBits (F := Ideal) .f32 0x42000000#32, Scalar.ofBits (F := Ideal) .f32 0x42800000#32] s)
  have e : (Rect.unit (s := S3x128x128) ![s.val, 32 * ti.val, 0] S1x32x128.size (inb_wy s ti)).toLoadRect.idx (ix3 0 r l) = ix3 s (rowNo ti r) l := by
    funext a
    fin_cases a <;> apply Fin.ext
    · exact Nat.add_zero _
    · show 32 * ti.val + 1 * r.val = 32 * ti.val + r.val; omega
    · show 0 + 1 * l.val = l.val; omega
  refine (congrArg (View.canon _) e).trans (canon_planes (K := 3) (N := 128) P _ ?_ s ?_ (rowNo ti r) l)
  · simp only [List.mem_cons, List.not_mem_nil, or_false]
    rintro p (rfl | rfl | rfl)
    · exact ⟨2, rfl⟩
    · exact ⟨1, rfl⟩
    · exact ⟨0, rfl⟩
  · fin_cases s
    · exact .tail _ (.tail _ (.head _))
    · exact .tail _ (.head _)
    · exact .head _

theorem ldWq_plane (s : Fin 3) (G j : Fin 8) (x : Fin 128) :
    ldWq c arg3 harg3 arg6 x2 s G (ix3 0 j x) = wqV (kernelRun0_A.sl.v1 c arg3 harg3 x2)
      (![Scalar.ofBits (F := Ideal) .f32 0x41800000#32, Scalar.ofBits (F := Ideal) .f32 0x42000000#32, Scalar.ofBits (F := Ideal) .f32 0x42800000#32] s)
      (![Scalar.ofBits (F := Ideal) .f32 0x44800000#32, Scalar.ofBits (F := Ideal) .f32 0x45800000#32, Scalar.ofBits (F := Ideal) .f32 0x46800000#32] s)
      (ix3 0 (boxNo G j) x) := by
  unfold ldWq
  rw [View.readCov_eq_canon', wq_stores]
  set P : Fin 3 → FVec Ideal S1x64x128 .f32 := fun s => wqV (kernelRun0_A.sl.v1 c arg3 harg3 x2)
      (![Scalar.ofBits (F := Ideal) .f32 0x41800000#32, Scalar.ofBits (F := Ideal) .f32 0x42000000#32, Scalar.ofBits (F := Ideal) .f32 0x42800000#32] s)
      (![Scalar.ofBits (F := Ideal) .f32 0x44800000#32, Scalar.ofBits (F := Ideal) .f32 0x45800000#32, Scalar.ofBits (F := Ideal) .f32 0x46800000#32] s)
  have e : (Rect.unit (s := S3x64x128) ![s.val, 8 * G.val, 0] S1x8x128.size (inb_wq s G)).toLoadRect.idx (ix3 0 j x) = ix3 s (boxNo G j) x := by
    funext a
    fin_cases a <;> apply Fin.ext
    · exact Nat.add_zero _
    · show 8 * G.val + 1 * j.val = 8 * G.val + j.val; omega
    · show 0 + 1 * x.val = x.val; omega
  refine (congrArg (View.canon _) e).trans (canon_planes (K := 3) (N := 64) P _ ?_ s ?_ (boxNo G j) x)
  · simp only [List.mem_cons, List.not_mem_nil, or_false]
    rintro p (rfl | rfl | rfl)
    · exact ⟨2, rfl⟩
    · exact ⟨1, rfl⟩
    · exact ⟨0, rfl⟩
  · fin_cases s
    · exact .tail _ (.tail _ (.head _))
    · exact .tail _ (.head _)
    · exact .head _

/-- The five encoded columns in the order of their planes. -/
noncomputable def cols (tb : FVec Ideal S64x4 .f32) : Fin 5 → Col :=
  ![thrV tb, midV (g0 tb) (g2 tb), midV (g1 tb) (g3 tb), logV (g0 tb) (g2 tb), logV (g1 tb) (g3 tb)]

theorem ldSc_plane (k : Fin 5) (G j : Fin 8) (x : Fin 128) :
    ldSc c arg3 harg3 arg8 x2 k G (ix3 0 j x) = cols (kernelRun0_A.sl.v1 c arg3 harg3 x2) k (ix2 (boxNo G j) 0) := by
  rw [← store_apply (cols (kernelRun0_A.sl.v1 c arg3 harg3 x2) k) (boxNo G j) x]
  unfold ldSc
  rw [View.readCov_eq_canon', sc_stores]
  set P : Fin 5 → FVec Ideal S1x64x128 .f32 := fun k => store (cols (kernelRun0_A.sl.v1 c arg3 harg3 x2) k)
  have e : (Rect.unit (s := S5x64x128) ![k.val, 8 * G.val, 0] S1x8x128.size (inb_sc k G)).toLoadRect.idx (ix3 0 j x) = ix3 k (boxNo G j) x := by
    funext a
    fin_cases a <;> apply Fin.ext
    · exact Nat.add_zero _
    · show 8 * G.val + 1 * j.val = 8 * G.val + j.val; omega
    · show 0 + 1 * x.val = x.val; omega
  refine (congrArg (View.canon _) e).trans (canon_planes (K := 5) (N := 64) P _ ?_ k ?_ (boxNo G j) x)
  · simp only [List.mem_cons, List.not_mem_nil, or_false]
    rintro p (rfl | rfl | rfl | rfl | rfl)
    · exact ⟨4, rfl⟩
    · exact ⟨3, rfl⟩
    · exact ⟨2, rfl⟩
    · exact ⟨1, rfl⟩
    · exact ⟨0, rfl⟩
  · fin_cases k
    · exact .tail _ (.tail _ (.tail _ (.tail _ (.head _))))
    · exact .tail _ (.tail _ (.tail _ (.head _)))
    · exact .tail _ (.tail _ (.head _))
    · exact .tail _ (.head _)
    · exact .head _

/-- The blocks of boxes hold `b`. -/
structure HoldsB (t2 : Vec Ideal S1x64x4 .f32) (t3 : Vec Ideal S1x8x128 .f32) (b : Boxes) : Prop where
  x1 : ∀ g, t2 (ix3 0 g 0) = b.X1 g
  y1 : ∀ g, t2 (ix3 0 g 1) = b.Y1 g
  x2 : ∀ g, t2 (ix3 0 g 2) = b.X2 g
  y2 : ∀ g, t2 (ix3 0 g 3) = b.Y2 g
  ty1 : ∀ g, t3 (ix3 0 1 (lane g)) = b.Y1 g
  ty2 : ∀ g, t3 (ix3 0 3 (lane g)) = b.Y2 g

variable {b : Boxes} (hb : HoldsB x2 x3 b)
include hb

theorem holdsK : HoldsK (kernelRun0_A.sl.v1 c arg3 harg3 x2) (kernelRun0_A.sl.v7 c arg4 harg4 x3) b where
  x1 g := (v1_apply g 0).trans (hb.x1 g)
  y1 g := (v1_apply g 1).trans (hb.y1 g)
  x2 g := (v1_apply g 2).trans (hb.x2 g)
  y2 g := (v1_apply g 3).trans (hb.y2 g)
  ty1 g := (v7_apply 1 (lane g)).trans (hb.ty1 g)
  ty2 g := (v7_apply 3 (lane g)).trans (hb.ty2 g)

theorem holdsL : HoldsL b (ldWy c arg4 harg4 arg7 x3) (ldWq c arg3 harg3 arg6 x2) (ldSc c arg3 harg3 arg8 x2) :=
  have hk := holdsK (c := c) (harg3 := harg3) (harg4 := harg4) hb
  { wy s ti r g := (ldWy_plane ..).trans (wyV_apply hk s (by
      fin_cases s
      · exact h0
      · exact h1
      · exact h2) _ g)
    wq s G j x := (ldWq_plane ..).trans (wqV_apply hk s (by
      fin_cases s
      · exact h0
      · exact h1
      · exact h2) (by
      fin_cases s
      · exact Lit.n1024.trans (by congr 1; show (1024 : ℝ) = 4 * 16 * 16; norm_num)
      · exact Lit.n4096.trans (by congr 1; show (4096 : ℝ) = 4 * 32 * 32; norm_num)
      · exact Lit.n16384.trans (by congr 1; show (16384 : ℝ) = 4 * 64 * 64; norm_num)) _ x)
    thr G j x := (ldSc_plane ..).trans (thrV_apply hk _)
    mx G j x := (ldSc_plane ..).trans (mid_x hk _)
    my G j x := (ldSc_plane ..).trans (mid_y hk _)
    lgw G j x := (ldSc_plane ..).trans (log_x hk _)
    lgh G j x := (ldSc_plane ..).trans (log_y hk _) }
end

end Cert.KernelBlock
-- ==== Proof.KernelRow.lean ====
module

public import proofs.«01_k».proof.Proof.LoadRead

/-!
The result's block of one picture: its first three lanes are the picture's three sums.
-/

@[expose] public section

namespace Cert.KernelBlock

open Idealize.ShloMosaic Cert.KernelIdeal Cert.KernelIdeal.Gen Cert.KernelTile Cert.KernelPrep Cert.Loss

section
variable (c : Dev nD) (i : grid0.Coords) (arg1 : Memref sig .tc .vmem S1x3x128x128 .f32) (harg1 : arg1.IsWhole)
  (arg2 : Memref sig .tc .vmem S1x12x128x128 .f32) (harg2 : arg2.IsWhole) (arg3 : Memref sig .tc .vmem S1x64x4 .f32) (harg3 : arg3.IsWhole)
  (arg4 : Memref sig .tc .vmem S1x8x128 .f32) (harg4 : arg4.IsWhole) (arg5 : Memref sig .tc .vmem S1x1x128 .f32) (harg5 : arg5.IsWhole)
  (arg6 : Memref sig .tc .vmem S3x64x128 .f32) (harg6 : arg6.IsWhole) (arg7 : Memref sig .tc .vmem S3x128x128 .f32) (harg7 : arg7.IsWhole)
  (arg8 : Memref sig .tc .vmem S5x64x128 .f32) (harg8 : arg8.IsWhole)
  (x0 : Vec Ideal S1x3x128x128 .f32) (x1 : Vec Ideal S1x12x128x128 .f32) (x2 : Vec Ideal S1x64x4 .f32) (x3 : Vec Ideal S1x8x128 .f32)

/-- The run stores one row, and it is the whole block. -/
theorem pieces_eq : (kernelRun0_A c i arg1 harg1 arg2 harg2 arg3 harg3 arg4 harg4 arg5 harg5 arg6 harg6 arg7 harg7 arg8 harg8 x0 x1 x2 x3).1 =
    [⟨Rect.unit (s := S1x1x128) ![0, 0, 0] S1x1x128.size inb_S1x1x128_S1x1x128_0_0_0,
      k0_pay1 (kernelRun0_A.sl.r_124 c arg1 harg1 arg2 harg2 arg3 harg3 arg4 harg4 arg6 arg7 arg8 x0 x1 x2 x3)⟩] := rfl

theorem pay_apply (v : FVec Ideal S1x128 .f32) (l : Fin 128) : k0_pay1 v (ix3 0 0 l) = v (ix2 0 l) := by
  pointwise [k0_pay1]

theorem block_eq : out0_A_4 c i arg1 harg1 arg2 harg2 arg3 harg3 arg4 harg4 arg5 harg5 arg6 harg6 arg7 harg7 arg8 harg8 x0 x1 x2 x3 =
    k0_pay1 (kernelRun0_A.sl.r_124 c arg1 harg1 arg2 harg2 arg3 harg3 arg4 harg4 arg6 arg7 arg8 x0 x1 x2 x3) := by
  unfold out0_A_4
  rw [View.read_writes_junk_eq_canon, pieces_eq]
  exact View.canon_unit_zero (by funext a; fin_cases a <;> rfl) _ _

variable {x2 x3} {b : Boxes} (hb : HoldsB x2 x3 b)
include hb

/-- The row holds the three sums of the picture. -/
theorem block_apply (l : Fin 3) :
    out0_A_4 c i arg1 harg1 arg2 harg2 arg3 harg3 arg4 harg4 arg5 harg5 arg6 harg6 arg7 harg7 arg8 harg8 x0 x1 x2 x3 (ix3 0 0 ⟨l.val, by omega⟩) =
    ![clsSum b fun s y x => x0 (ix4 0 s y x), boxSum b fun s k y x => x1 (ix4 0 (chan s k) y x), numSum b] l := by
  have hl := holdsL (c := c) (arg3 := arg3) (harg3 := harg3) (arg4 := arg4) (harg4 := harg4) (arg6 := arg6) (arg7 := arg7) (arg8 := arg8) hb
  rw [block_eq, pay_apply, row_eq]
  show KernelTile.lanes _ _ _ _ = _
  rw [cx_eq, cy_eq, clsAll_eq hl _ (fun s y x => x0 (ix4 0 s y x)) (fun s ti r x => ldCls_apply s ti r x), boxAll_eq hl _ (fun s k y x => x1 (ix4 0 (chan s k) y x)) (fun s ti k r x => ldReg_apply s ti k r x), numAll_eq hl]
  have := lanes_apply (clsSum b fun s y x => x0 (ix4 0 s y x)) (boxSum b fun s k y x => x1 (ix4 0 (chan s k) y x)) (numSum b)
  match l with
  | 0 => exact this.1
  | 1 => exact this.2.1
  | 2 => exact this.2.2

end

end Cert.KernelBlock
-- ==== Proof.RefGrid.lean ====
module

public import proofs.«01_k».proof.Proof.Gen.ReferenceIdeal.Read
public import proofs.«01_k».proof.Proof.Corners

/-!
The reference, first part: the grid of anchors, the boxes, the ratios.
-/

@[expose] public section

namespace Cert.RefRead

open Idealize.ShloMosaic Cert.ReferenceIdeal Cert.ReferenceIdeal.Read Cert.Loss

/-- The array of boxes holds the boxes `bx`, one picture after another. -/
def Holds (x2 : (⟨S8x64x4, .f32⟩ : BufTy).Contents (Elt Ideal)) (bx : Fin 8 → Boxes) : Prop :=
  ∀ b g, x2 (ix3 b g 0) = (bx b).X1 g ∧ x2 (ix3 b g 1) = (bx b).Y1 g ∧
    x2 (ix3 b g 2) = (bx b).X2 g ∧ x2 (ix3 b g 3) = (bx b).Y2 g

/-- Every array of boxes holds some. -/
theorem exists_boxes (x2 : (⟨S8x64x4, .f32⟩ : BufTy).Contents (Elt Ideal)) : ∃ bx, Holds x2 bx :=
  ⟨fun b => ⟨fun g => x2 (ix3 b g 0), fun g => x2 (ix3 b g 1), fun g => x2 (ix3 b g 2), fun g => x2 (ix3 b g 3)⟩,
    fun _ _ => ⟨rfl, rfl, rfl, rfl⟩⟩

/-- The number of a cell, as the conversion of its index word gives it. -/
theorem sitofp_fin (x : Fin 128) : FloatOps.sitofp (F := Ideal) FTy.f32 (BitVec.ofNat 32 x.val) = (((x.val : ℕ) : ℝ) : EReal) := by
  show ((((BitVec.ofNat 32 x.val).toInt : ℤ) : ℝ) : EReal) = _
  have hx := x.isLt
  have : (BitVec.ofNat 32 x.val).toInt = (x.val : ℤ) := by
    rw [BitVec.toInt_eq_toNat_of_lt] <;> simp [BitVec.toNat_ofNat] <;> omega
  rw [this]; simp

theorem ctr_coe (x : Fin 128) : ((((x.val : ℕ) : ℝ) : EReal) + ((1 / 2 : ℝ) : EReal)) * ((4 : ℝ) : EReal) = ((ctr x : ℝ) : EReal) := by
  rw [← EReal.coe_add, ← EReal.coe_mul]; rfl

section Grid
variable (s : Fin 3) (y x : Fin 128)

theorem cx_apply : val_main_v5 (F := Ideal) (ix3 s y x) = ((ctr x : ℝ) : EReal) := by
  pointwise [val_main_v5, val_main_v4, val_main_cst_0, val_main_v3, val_main_v2, val_main_cst, val_main_v1, val_main_v0]
  rw [sitofp_fin, Lit.half, Lit.four, ctr_coe]

theorem cy_apply : val_main_v11 (F := Ideal) (ix3 s y x) = ((ctr y : ℝ) : EReal) := by
  pointwise [val_main_v11, val_main_v10, val_main_cst_2, val_main_v9, val_main_v8, val_main_cst_1, val_main_v7, val_main_v6]
  rw [sitofp_fin, Lit.half, Lit.four, ctr_coe]

theorem half_apply : val_main_v20 (F := Ideal) (ix3 s y x) = ((half s : ℝ) : EReal) := by
  pointwise [val_main_v20, val_main_v19, val_main_cst_7, val_main_v18, val_main_v17, val_main_call1_v0, val_main_call0_v0,
    val_main_call0_v1, val_main_v16, val_main_v15, val_main_c_3, val_main_v14, val_main_v13, val_main_c, val_main_v12,
    val_main_cst_4, val_main_cst_5, val_main_cst_6]
  rw [Lit.n32, Lit.n64, Lit.n128, Lit.two]
  fin_cases s
  · exact (div_coe_coe 32 two_ne_zero).trans (by norm_num [half])
  · exact (div_coe_coe 64 two_ne_zero).trans (by norm_num [half])
  · exact (div_coe_coe 128 two_ne_zero).trans (by norm_num [half])

theorem ax1_apply : val_main_v22 (F := Ideal) (ix3 s y x) = ((ctr x : ℝ) : EReal) - ((half s : ℝ) : EReal) := by
  pointwise [val_main_v22, val_main_v21]; rw [id_eq, cx_apply, half_apply]

theorem ay1_apply : val_main_v24 (F := Ideal) (ix3 s y x) = ((ctr y : ℝ) : EReal) - ((half s : ℝ) : EReal) := by
  pointwise [val_main_v24, val_main_v23]; rw [id_eq, cy_apply, half_apply]

theorem ax2_apply : val_main_v26 (F := Ideal) (ix3 s y x) = ((ctr x : ℝ) : EReal) + ((half s : ℝ) : EReal) := by
  pointwise [val_main_v26, val_main_v25]; rw [id_eq, cx_apply, half_apply]

theorem ay2_apply : val_main_v28 (F := Ideal) (ix3 s y x) = ((ctr y : ℝ) : EReal) + ((half s : ℝ) : EReal) := by
  pointwise [val_main_v28, val_main_v27]; rw [id_eq, cy_apply, half_apply]

open Classical in
theorem inside_apply : val_main_v39 (F := Ideal) (ix3 s y x) = BitVec.ofBool (decide (Inside s y x)) := by
  pointwise [val_main_v39, val_main_v38, val_main_v37, val_main_cst_11, val_main_v36, val_main_v35, val_main_v34, val_main_cst_10,
    val_main_v33, val_main_v32, val_main_v31, val_main_cst_9, val_main_v30, val_main_v29, val_main_cst_8]
  rw [ax1_apply, ay1_apply, ax2_apply, ay2_apply, Lit.n512]
  simp only [← EReal.coe_sub, ← EReal.coe_add, ← EReal.coe_zero, EReal.coe_le_coe_iff, sub_nonneg]
  have e1 : ctr ↑x + half s ≤ 512 ↔ ctr ↑x ≤ 512 - half s := by constructor <;> intro h <;> linarith
  have e2 : ctr ↑y + half s ≤ 512 ↔ ctr ↑y ≤ 512 - half s := by constructor <;> intro h <;> linarith
  simp only [e1, e2, Inside]
  by_cases h1 : half s ≤ ctr x <;> by_cases h2 : half s ≤ ctr y <;> by_cases h3 : ctr x ≤ 512 - half s <;>
    by_cases h4 : ctr y ≤ 512 - half s <;> simp [h1, h2, h3, h4, IntOp.andi]

theorem aw_apply : val_main_v75 (F := Ideal) (ix3 s y x) = ((2 * half s : ℝ) : EReal) := by
  pointwise [val_main_v75]
  rw [ax1_apply, ax2_apply, ← EReal.coe_sub, ← EReal.coe_add, ← EReal.coe_sub]; congr 1; ring

theorem ah_apply : val_main_v76 (F := Ideal) (ix3 s y x) = ((2 * half s : ℝ) : EReal) := by
  pointwise [val_main_v76]
  rw [ay1_apply, ay2_apply, ← EReal.coe_sub, ← EReal.coe_add, ← EReal.coe_sub]; congr 1; ring

end Grid

section Ratios
variable {x2 : (⟨S8x64x4, .f32⟩ : BufTy).Contents (Elt Ideal)} {bx : Fin 8 → Boxes} (hx : Holds x2 bx)
variable (b : Fin 8) (s : Fin 3) (y x : Fin 128) (g : Fin 64)

include hx

theorem gx1_apply : val_main_v41 (F := Ideal) x2 (ix2 b g) = (bx b).X1 g := by
  rw [← (hx b g).1]; pointwise [val_main_v41, val_main_v40]

theorem gy1_apply : val_main_v43 (F := Ideal) x2 (ix2 b g) = (bx b).Y1 g := by
  rw [← (hx b g).2.1]; pointwise [val_main_v43, val_main_v42]

theorem gx2_apply : val_main_v45 (F := Ideal) x2 (ix2 b g) = (bx b).X2 g := by
  rw [← (hx b g).2.2.1]; pointwise [val_main_v45, val_main_v44]

theorem gy2_apply : val_main_v47 (F := Ideal) x2 (ix2 b g) = (bx b).Y2 g := by
  rw [← (hx b g).2.2.2]; pointwise [val_main_v47, val_main_v46]

theorem ix_apply : val_main_v60 (F := Ideal) x2 (ix5 b s y x g) = (((bx b).wX s x g : ℝ) : EReal) := by
  pointwise [val_main_v60, val_main_v59, val_main_cst_12, val_main_v58, val_main_v57, val_main_v56, val_main_v55, val_main_v54,
    val_main_v53, val_main_v52, val_main_v51, val_main_v50, val_main_v49, val_main_v48]
  rw [ax1_apply, ax2_apply, gx1_apply hx, gx2_apply hx, rov_coe]; rfl

theorem iy_apply : val_main_v73 (F := Ideal) x2 (ix5 b s y x g) = (((bx b).wY s y g : ℝ) : EReal) := by
  pointwise [val_main_v73, val_main_v72, val_main_cst_13, val_main_v71, val_main_v70, val_main_v69, val_main_v68, val_main_v67,
    val_main_v66, val_main_v65, val_main_v64, val_main_v63, val_main_v62, val_main_v61]
  rw [ay1_apply, ay2_apply, gy1_apply hx, gy2_apply hx, rov_coe]; rfl

theorem iou_apply : val_main_v89 (F := Ideal) x2 (ix5 b s y x g) = (((bx b).iou s y x g Lit.eps : ℝ) : EReal) := by
  pointwise [val_main_v89, val_main_v88, val_main_v87, val_main_cst_14, val_main_v86, val_main_v85, val_main_v84, val_main_v83,
    val_main_v82, val_main_v81, val_main_v80, val_main_v79, val_main_v78, val_main_v77, val_main_v74]
  rw [aw_apply, ah_apply, gx1_apply hx, gx2_apply hx, gy1_apply hx, gy2_apply hx, ix_apply hx, iy_apply hx, Lit.eps_bits]
  rw [← EReal.coe_mul, ← EReal.coe_mul, add_comm, show 2 * half s * (2 * half s) = 4 * half s * half s by ring]
  exact (bx b).ratio ..

omit hx in
theorem drop_apply : Gen.reducesTo_S8x3x128x128x64_S8x64_d1_2_3.drop (ix5 b s y x g) = ix2 b g := by
  funext k; fin_cases k <;> rfl

/-- The best ratio of each box. -/
theorem best_apply : val_main_v97 (F := Ideal) x2 (ix2 b g) = (((bx b).best g : ℝ) : EReal) := by
  have hb := (bx b).best_spec g
  unfold val_main_v97
  pointwise [val_main_cst_18]
  rw [Lit.bot_bits]
  apply le_antisymm
  · rw [Finset.fold_max_le]
    refine ⟨bot_le, fun i hi => ?_⟩
    obtain ⟨b', s, y, x, g', rfl⟩ : ∃ b' s y x g', i = ix5 b' s y x g' := ⟨i 0, i 1, i 2, i 3, i 4, by idx_vars i⟩
    have hi := (drop_apply b' s y x g').symm.trans (Finset.mem_filter.1 hi).2
    obtain rfl : b' = b := congrFun hi 0
    obtain rfl : g' = g := congrFun hi 1
    rw [iou_apply hx]
    exact EReal.coe_le_coe_iff.2 (hb.2 ⟨(s, y, x), rfl⟩)
  · obtain ⟨⟨s, y, x⟩, h⟩ := hb.1
    refine (Finset.le_fold_max _).2 (.inr ⟨ix5 b s y x g, ?_, ?_⟩)
    · exact Finset.mem_filter.2 ⟨Finset.mem_univ _, drop_apply b s y x g⟩
    · rw [iou_apply hx]
      exact EReal.coe_le_coe_iff.2 h.ge

end Ratios

end Cert.RefRead
-- ==== Proof.KernelArray.lean ====
module

public import proofs.«01_k».proof.Proof.Gen.KernelIdeal.Frame
public import proofs.«01_k».proof.Proof.KernelRow
public import proofs.«01_k».proof.Proof.RefGrid
public import Idealize.ShloMosaic.Lib.KernelVsHost
public import Idealize.ShloMosaic.Lib.Pipeline.ValueKit.Geometry

/-!
The kernel's array: the blocks each step is handed are the picture's own values, and the array is the eight rows.
-/

@[expose] public section

namespace Cert.KernelBlock

open Idealize.ShloMosaic Idealize.SL.Sem Cert.KernelIdeal Cert.KernelIdeal.Gen Cert.Loss

variable (m : (ℓ : Loc nD τ sig) → Buf (Elt Ideal) ℓ) (c : Dev nD)

/-- The three arguments. -/
def in0 : FVec Ideal S8x3x128x128 .f32 := m ((c.tc : Thread nD τ).loc main_arg0)
def in1 : FVec Ideal S8x12x128x128 .f32 := m ((c.tc : Thread nD τ).loc main_arg1)
def in2 : FVec Ideal S8x64x4 .f32 := m ((c.tc : Thread nD τ).loc main_arg2)

/-- The step that treats picture `b`. -/
def step (b : Fin 8) : Fin cfg0.N := ⟨b.val, lt_of_lt_of_eq b.isLt N_0.symm⟩

theorem index_0 : ∀ t : Fin cfg0.N, win0_0.index t = ![t.val, 0, 0, 0] := (by decide +kernel : ∀ t : Fin grid0.N, _)
theorem index_1 : ∀ t : Fin cfg0.N, win0_1.index t = ![t.val, 0, 0, 0] := (by decide +kernel : ∀ t : Fin grid0.N, _)
theorem index_2 : ∀ t : Fin cfg0.N, win0_2.index t = ![t.val, 0, 0] := (by decide +kernel : ∀ t : Fin grid0.N, _)
theorem index_3 : ∀ t : Fin cfg0.N, win0_3.index t = ![t.val, 0, 0] := (by decide +kernel : ∀ t : Fin grid0.N, _)
theorem index_4 : ∀ t : Fin cfg0.N, win0_4.index t = ![t.val, 0, 0] := (by decide +kernel : ∀ t : Fin grid0.N, _)

theorem cls_block (b : Fin 8) (s : Fin 3) (y x : Fin 128) :
    (iblk m c 0 (step b) : Vec Ideal S1x3x128x128 .f32) (ix4 0 s y x) = in0 m c (ix4 b s y x) := by
  unfold in0
  rw [← V_main_arg0 m c]
  blk_simp [iblk]
  refine congrArg _ ?_
  blk_ext [iblk, index_0, step]

theorem reg_block (b : Fin 8) (s : Fin 12) (y x : Fin 128) :
    (iblk m c 1 (step b) : Vec Ideal S1x12x128x128 .f32) (ix4 0 s y x) = in1 m c (ix4 b s y x) := by
  unfold in1
  rw [← V_main_arg1 m c]
  blk_simp [iblk]
  refine congrArg _ ?_
  blk_ext [iblk, index_1, step]

theorem box_block (b : Fin 8) (g : Fin 64) (k : Fin 4) :
    (iblk m c 2 (step b) : Vec Ideal S1x64x4 .f32) (ix3 0 g k) = in2 m c (ix3 b g k) := by
  unfold in2
  rw [← V_main_arg2 m c]
  blk_simp [iblk]
  refine congrArg _ ?_
  blk_ext [iblk, index_2, step]

/-- The turned boxes inside their padding. -/
theorem turned_apply (b : Fin 8) (k : Fin 4) (g : Fin 64) :
    (V m c main_v1 : FVec Ideal S8x8x128 .f32) (ix3 b ⟨k.val, by omega⟩ ⟨g.val, by omega⟩) = in2 m c (ix3 b g k) := by
  have e : (V m c main_v1 : FVec Ideal S8x8x128 .f32) = pad S8x8x128 ![0, 0, 0] ![0, 4, 64] ![0, 0, 0]
      (transpose S8x4x64 [0, 2, 1] (in2 m c : FVec Ideal S8x64x4 .f32) transposes_S8x64x4_S8x4x64_0_2_1)
      (sitofp .f32 (constantI S_ 32 0#32)) pads_S8x4x64_S8x8x128_000_040_0640 h_S_ := by
    unfold_abbrev_sides
    simp only [hostOps0, hostOps0_1, List.flatten_cons, List.flatten_nil, List.append_nil, List.cons_append, List.nil_append]
    after_results
    rfl
  rw [e]
  refine (pad_apply_of_inside _ _ _ _ _ _ _ _ (ix3 b k g) ?_).trans ?_
  · intro a; fin_cases a
    · show b.val = 0 + b.val * (0 + 1); omega
    · show k.val = 0 + k.val * (0 + 1); omega
    · show g.val = 0 + g.val * (0 + 1); omega
  · pointwise []

theorem turned_block (b : Fin 8) (k : Fin 4) (g : Fin 64) :
    (iblk m c 3 (step b) : Vec Ideal S1x8x128 .f32) (ix3 0 ⟨k.val, by omega⟩ ⟨g.val, by omega⟩) =
      in2 m c (ix3 b g k) := by
  rw [← turned_apply m c b k g]
  blk_simp [iblk]
  refine congrArg _ ?_
  blk_ext [iblk, index_3, step]

variable {bx : Fin 8 → Boxes} (hx : RefRead.Holds (in2 m c) bx)

/-- The array the kernel leaves. -/
noncomputable def rows : FVec Ideal S8x1x128 .f32 := fun i => (outsAt0 m c (step (i 0)) : FVec Ideal S1x1x128 .f32) (ix3 0 0 (i 2))

theorem array_eq : (dats m 0 c).arrAt 4 cfg0.N = rows m c := by
  refine (dats m 0 c).arrAt_eq_of_covers 4 _ (by decide +kernel) fun t hf y => ?_
  blk_simp
  rw [after0_4]
  have e : step ((win0_4.blk t).view.emb y 0) = t := Fin.ext (by
    idx_bounds y
    blk_simp [index_4, step])
  unfold rows
  rw [e]
  refine congrArg _ ?_
  blk_ext [index_4]

/-- What a step leaves of a picture whose boxes it was handed. -/
theorem step_apply (t : Fin cfg0.N) {b : Boxes} (hb : HoldsB (iblk m c 2 t) (iblk m c 3 t) b) (l : Fin 3) :
    (outsAt0 m c t : FVec Ideal S1x1x128 .f32) (ix3 0 0 ⟨l.val, by omega⟩) =
    ![clsSum b fun s y x => (iblk m c 0 t : Vec Ideal S1x3x128x128 .f32) (ix4 0 s y x),
      boxSum b fun s k y x => (iblk m c 1 t : Vec Ideal S1x12x128x128 .f32) (ix4 0 (chan s k) y x), numSum b] l :=
  block_apply c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _)
    (iblk m c 0 t) (iblk m c 1 t) hb l

include hx

theorem holdsB (b : Fin 8) : HoldsB (iblk m c 2 (step b)) (iblk m c 3 (step b)) (bx b) where
  x1 g := (box_block m c b g 0).trans (hx b g).1
  y1 g := (box_block m c b g 1).trans (hx b g).2.1
  x2 g := (box_block m c b g 2).trans (hx b g).2.2.1
  y2 g := (box_block m c b g 3).trans (hx b g).2.2.2
  ty1 g := (turned_block m c b 1 g).trans (hx b g).2.1
  ty2 g := (turned_block m c b 3 g).trans (hx b g).2.2.2

/-- Its first three lanes. -/
theorem rows_apply (b : Fin 8) (l : Fin 3) : rows m c (ix3 b 0 ⟨l.val, by omega⟩) =
    ![clsSum (bx b) fun s y x => in0 m c (ix4 b s y x),
      boxSum (bx b) fun s k y x => in1 m c (ix4 b (chan s k) y x), numSum (bx b)] l := by
  refine (step_apply m c (step b) (holdsB m c hx b) l).trans ?_
  simp only [cls_block, reg_block]

end Cert.KernelBlock
-- ==== Proof.KernelTail.lean ====
module

public import proofs.«01_k».proof.Proof.KernelArray

/-!
The operations after the kernel: the eight rows are summed, and the two loss sums divided by the number of samples.
-/

@[expose] public section

namespace Cert.KernelBlock

open Idealize.ShloMosaic Idealize.SL.Sem Cert.KernelIdeal Cert.KernelIdeal.Gen Cert.Loss

/-- The three sums over the batch. -/
noncomputable def sums (v : FVec Ideal S8x1x128 .f32) : FVec Ideal S3 .f32 :=
  Host.reduceAdd (shapeCast S8x3 (extractStridedSlice S8x1x3 ![0, 0, 0] v slices_S8x1x128_S8x1x3_0_0_0) shapeCasts_S8x1x3_S8x3)
    (constant S_ .f32 0x00000000#32) reducesTo_S8x3_S3_d0 h_S_

noncomputable def count (s : FVec Ideal S3 .f32) : FVec Ideal S_ .f32 :=
  maximumf (shapeCast S_ (extractStridedSlice S1 ![2] s slices_S3_S1_2) shapeCasts_S1_S_) (constant S_ .f32 0x3F800000#32)

/-- The two losses. -/
noncomputable def losses (s : FVec Ideal S3 .f32) : FVec Ideal S2 .f32 :=
  concatenate S2 0 [⟨S1, broadcastInDim S1 ![] bcast_S_S1 (Host.divf (shapeCast S_ (extractStridedSlice S1 ![0] s slices_S3_S1_0) shapeCasts_S1_S_) (count s))⟩,
    ⟨S1, broadcastInDim S1 ![] bcast_S_S1 (Host.divf (shapeCast S_ (extractStridedSlice S1 ![1] s slices_S3_S1_1) shapeCasts_S1_S_) (count s))⟩]
    concatenates_S1_S1_S2_d0

theorem sums_apply (v : FVec Ideal S8x1x128 .f32) (l : Fin 3) : sums v (ix1 l) = ∑ b : Fin 8, v (ix3 b 0 ⟨l.val, by omega⟩) := by
  unfold sums
  pointwise [Lit.bot_bits]

theorem losses_apply (s : FVec Ideal S3 .f32) (j : Fin 2) :
    losses s (ix1 j) = ![Ideal.div (s (ix1 0)) (max (s (ix1 2)) 1), Ideal.div (s (ix1 1)) (max (s (ix1 2)) 1)] j := by
  unfold losses count
  match j with
  | 0 => pointwise []
  | 1 => pointwise []

variable (m : (ℓ : Loc nD τ sig) → Buf (Elt Ideal) ℓ) (c : Dev nD)

/-- The operations read the kernel's array, and make of it the two losses. -/
theorem tail_eq : (Pipeline.afterTail₀ cfgs (dats m) 0 (V0 m) [hostOps1] c main_v17 : FVec Ideal S2 .f32) = losses (sums (rows m c)) := by
  have e : Pipeline.withArrays (cfgs 0).spec c (V0 m c) (fun w => (dats m 0 c).arrAt w (cfgs 0).N) (Proc.tc.devRef main_v2) =
      (dats m 0 c).arrAt 4 cfg0.N :=
    Pipeline.withArrays_arr spec0 winFacts0.arr_inj c (V0 m c) (fun w => (dats m 0 c).arrAt w cfg0.N) 4
  rw [array_eq] at e
  unfold Pipeline.afterTail₀
  simp only [hostOps1, List.flatten_cons, List.flatten_nil, List.append_nil]
  after_results
  rw [e]
  rfl

variable {bx : Fin 8 → Boxes} (hx : RefRead.Holds (in2 m c) bx)
include hx

/-- The losses are those of the boxes. -/
theorem losses_eq (j : Fin 2) : losses (sums (rows m c)) (ix1 j) =
    ![clsLoss bx fun b s y x => in0 m c (ix4 b s y x), boxLoss bx fun b s k y x => in1 m c (ix4 b (chan s k) y x)] j := by
  have h0 := (sums_apply (rows m c) 0).trans (Finset.sum_congr rfl fun b _ => rows_apply m c hx b 0)
  have h1 := (sums_apply (rows m c) 1).trans (Finset.sum_congr rfl fun b _ => rows_apply m c hx b 1)
  have h2 := (sums_apply (rows m c) 2).trans (Finset.sum_congr rfl fun b _ => rows_apply m c hx b 2)
  rw [losses_apply, h0, h1, h2]
  rfl

end Cert.KernelBlock
-- ==== Proof.RefMatch.lean ====
module

public import proofs.«01_k».proof.Proof.RefGrid
public import Idealize.ShloMosaic.Lib.Routing.OpsOrder

/-!
The reference, second part: which anchors count, which box each is matched with, and the offsets of that box.
-/

@[expose] public section

namespace Cert.RefRead

open Idealize.ShloMosaic Cert.ReferenceIdeal Cert.ReferenceIdeal.Read Cert.Loss

theorem minsi_toNat {a b : BitVec 32} (ha : a.toNat < 2147483648) (hb : b.toNat < 2147483648) :
    (IntOp.minsi a b).toNat = min a.toNat b.toNat := by
  have ea : a.toInt = a.toNat := BitVec.toInt_eq_toNat_of_lt (by omega)
  have eb : b.toInt = b.toNat := BitVec.toInt_eq_toNat_of_lt (by omega)
  unfold IntOp.minsi
  rw [BitVec.slt_eq_decide, ea, eb]
  by_cases h : a.toNat < b.toNat
  · simp [h, h.le]
  · simp [h, not_lt.1 h]

/-- The least of a family of words below two to the thirty-one. -/
theorem fold_minsi_toNat {ι : Type*} [DecidableEq ι] (f : ι → BitVec 32) (hf : ∀ j, (f j).toNat < 2147483648) (s : Finset ι) :
    (s.fold IntOp.minsi (2147483647#32) f).toNat = s.fold min 2147483647 (fun j => (f j).toNat) ∧
      (s.fold IntOp.minsi (2147483647#32) f).toNat < 2147483648 := by
  induction s using Finset.induction with
  | empty => exact ⟨rfl, by rw [Finset.fold_empty]; decide⟩
  | insert j s hj ih =>
    rw [Finset.fold_insert hj, Finset.fold_insert hj, minsi_toNat (hf j) ih.2, ih.1]
    exact ⟨rfl, lt_of_le_of_lt (min_le_left _ _) (hf j)⟩

/-- The least index with a property. -/
theorem fold_minsi (p : Fin 64 → Prop) [DecidablePred p] (k : Fin 64) (hk : p k) (hlt : ∀ j, p j → k ≤ j) :
    Finset.univ.fold IntOp.minsi (2147483647#32) (fun j : Fin 64 => if p j then BitVec.ofNat 32 j.val else 64#32) = BitVec.ofNat 32 k.val := by
  have hv : ∀ j : Fin 64, (if p j then BitVec.ofNat 32 j.val else 64#32).toNat = if p j then j.val else 64 := by
    intro j
    split
    · rw [BitVec.toNat_ofNat]; omega
    · rfl
  apply BitVec.eq_of_toNat_eq
  rw [(fold_minsi_toNat _ (fun j => by rw [hv]; split <;> omega) _).1]
  simp only [hv]
  have e : (BitVec.ofNat 32 k.val).toNat = k.val := by rw [BitVec.toNat_ofNat]; omega
  rw [e]
  apply le_antisymm
  · exact (Finset.fold_min_le _).2 (.inr ⟨k, Finset.mem_univ _, by rw [if_pos hk]⟩)
  · refine (Finset.le_fold_min _).2 ⟨by omega, fun j _ => ?_⟩
    split
    · exact hlt j (by assumption)
    · omega

variable {x2 : (⟨S8x64x4, .f32⟩ : BufTy).Contents (Elt Ideal)} {bx : Fin 8 → Boxes} (hx : Holds x2 bx)
variable (b : Fin 8) (s : Fin 3) (y x : Fin 128) (g : Fin 64)

include hx

theorem iou_le_first : (bx b).iou s y x g Lit.eps ≤ (bx b).iou s y x ((bx b).first s y x) Lit.eps :=
  ((bx b).iou_le_iou s y x g Lit.eps_le y x s _).2 (((bx b).first_spec s y x).1 g)

omit hx in
theorem iou_lt_first (h : g < (bx b).first s y x) :
    (bx b).iou s y x g Lit.eps < (bx b).iou s y x ((bx b).first s y x) Lit.eps := by
  rw [← not_le, (bx b).iou_le_iou s y x _ Lit.eps_le y x s g, not_le]
  exact ((bx b).first_spec s y x).2 g h

/-- The greatest ratio of an anchor. -/
theorem max_apply : val_main_v90 (F := Ideal) x2 (ix4 b s y x) = (((bx b).iou s y x ((bx b).first s y x) Lit.eps : ℝ) : EReal) := by
  unfold val_main_v90
  pointwise [val_main_cst_15]
  simp only [iou_apply hx]
  rw [Lit.bot_bits]
  exact fold_max_coe _ ⟨⟨_, rfl⟩, by rintro _ ⟨g, rfl⟩; exact iou_le_first hx b s y x g⟩ bot_le

/-- The index of the box an anchor is matched with. -/
theorem first_apply : val_main_v96 (F := Ideal) x2 (ix4 b s y x) = BitVec.ofNat 32 ((bx b).first s y x).val := by
  unfold val_main_v96
  pointwise [val_main_c_17, val_main_v95, val_main_v94, val_main_v93, val_main_v92, val_main_v91, val_main_call2_v1, val_main_call2_v0, val_main_c_16]
  simp only [iou_apply hx, max_apply hx, EReal.coe_eq_coe_iff]
  refine fold_minsi _ _ rfl fun j hj => ?_
  by_contra hc
  exact absurd hj (iou_lt_first b s y x j (not_le.1 hc)).ne

end Cert.RefRead
-- ==== Proof.RefMatched.lean ====
module

public import proofs.«01_k».proof.Proof.RefMatch

/-!
The reference, fourth part: the corners of the box an anchor is matched with.
-/

@[expose] public section

namespace Cert.RefRead

open Idealize.ShloMosaic Cert.ReferenceIdeal Cert.ReferenceIdeal.Read Cert.Loss

variable {x2 : (⟨S8x64x4, .f32⟩ : BufTy).Contents (Elt Ideal)} {bx : Fin 8 → Boxes} (hx : Holds x2 bx)
variable (b : Fin 8) (s : Fin 3) (y x : Fin 128) (g : Fin 64)

theorem e131 : val_main_v131 (F := Ideal) x2 (ix5 b s y x g) = val_main_v96 (F := Ideal) x2 (ix4 b s y x) := by
  rw [val_main_v131_apply, val_main_v130_apply]
  refine congrArg _ (funext fun a => ?_)
  fin_cases a <;> rfl

theorem e91 : val_main_v91 (F := Ideal) (ix5 b s y x g) = BitVec.ofNat 32 g.val := rfl

/-- Of a column only the matched box's entry is kept. -/
theorem keep_apply (hx : Holds x2 bx) (a : EReal) : Scalar.select (val_main_v132 (F := Ideal) x2 (ix5 b s y x g)) a 0 = if (bx b).first s y x = g then a else 0 := by
  rw [val_main_v132_apply, e131, e91, first_apply hx]
  generalize (bx b).first s y x = k
  by_cases h : k = g
  · subst h
    rw [if_pos rfl]
    simp [IntOp.cmpi, Scalar.select]
  · have hne : BitVec.ofNat 32 k.val ≠ BitVec.ofNat 32 g.val := by
      intro e
      have := congrArg BitVec.toNat e
      rw [BitVec.toNat_ofNat, BitVec.toNat_ofNat] at this
      exact h (Fin.ext (by omega))
    rw [if_neg h]
    simp [IntOp.cmpi, Scalar.select, beq_eq_false_iff_ne.2 hne]

theorem e133 : val_main_call3_v1 (F := Ideal) x2 (ix5 b s y x g) = val_main_v41 (F := Ideal) x2 (ix2 b g) := by
  rw [val_main_call3_v1_apply, val_main_v133_apply]
  refine congrArg _ (funext fun a => ?_)
  fin_cases a <;> rfl

theorem x1_apply (hx : Holds x2 bx) : val_main_v135 (F := Ideal) x2 (ix4 b s y x) = (bx b).X1 ((bx b).first s y x) := by
  have hv : ∀ g, val_main_v134 (F := Ideal) x2 (ix5 b s y x g) = if (bx b).first s y x = g then (bx b).X1 g else 0 := by
    intro g
    rw [← keep_apply b s y x g hx, ← gx1_apply hx, ← e133 b s y x g, val_main_v134_apply]
    refine congrArg _ ?_
    rw [val_main_call3_v2_apply]
    exact Ideal.ofBits_zero_f32
  unfold val_main_v135
  generalize val_main_v134 (F := Ideal) x2 = v at hv
  pointwise [val_main_cst_28]
  simp only [hv]
  simp

theorem e136 : val_main_call4_v1 (F := Ideal) x2 (ix5 b s y x g) = val_main_v43 (F := Ideal) x2 (ix2 b g) := by
  rw [val_main_call4_v1_apply, val_main_v136_apply]
  refine congrArg _ (funext fun a => ?_)
  fin_cases a <;> rfl

theorem y1_apply (hx : Holds x2 bx) : val_main_v138 (F := Ideal) x2 (ix4 b s y x) = (bx b).Y1 ((bx b).first s y x) := by
  have hv : ∀ g, val_main_v137 (F := Ideal) x2 (ix5 b s y x g) = if (bx b).first s y x = g then (bx b).Y1 g else 0 := by
    intro g
    rw [← keep_apply b s y x g hx, ← gy1_apply hx, ← e136 b s y x g, val_main_v137_apply]
    refine congrArg _ ?_
    rw [val_main_call4_v2_apply]
    exact Ideal.ofBits_zero_f32
  unfold val_main_v138
  generalize val_main_v137 (F := Ideal) x2 = v at hv
  pointwise [val_main_cst_30]
  simp only [hv]
  simp

theorem e139 : val_main_call5_v1 (F := Ideal) x2 (ix5 b s y x g) = val_main_v45 (F := Ideal) x2 (ix2 b g) := by
  rw [val_main_call5_v1_apply, val_main_v139_apply]
  refine congrArg _ (funext fun a => ?_)
  fin_cases a <;> rfl

theorem x2_apply (hx : Holds x2 bx) : val_main_v141 (F := Ideal) x2 (ix4 b s y x) = (bx b).X2 ((bx b).first s y x) := by
  have hv : ∀ g, val_main_v140 (F := Ideal) x2 (ix5 b s y x g) = if (bx b).first s y x = g then (bx b).X2 g else 0 := by
    intro g
    rw [← keep_apply b s y x g hx, ← gx2_apply hx, ← e139 b s y x g, val_main_v140_apply]
    refine congrArg _ ?_
    rw [val_main_call5_v2_apply]
    exact Ideal.ofBits_zero_f32
  unfold val_main_v141
  generalize val_main_v140 (F := Ideal) x2 = v at hv
  pointwise [val_main_cst_32]
  simp only [hv]
  simp

theorem e142 : val_main_call6_v1 (F := Ideal) x2 (ix5 b s y x g) = val_main_v47 (F := Ideal) x2 (ix2 b g) := by
  rw [val_main_call6_v1_apply, val_main_v142_apply]
  refine congrArg _ (funext fun a => ?_)
  fin_cases a <;> rfl

theorem y2_apply (hx : Holds x2 bx) : val_main_v144 (F := Ideal) x2 (ix4 b s y x) = (bx b).Y2 ((bx b).first s y x) := by
  have hv : ∀ g, val_main_v143 (F := Ideal) x2 (ix5 b s y x g) = if (bx b).first s y x = g then (bx b).Y2 g else 0 := by
    intro g
    rw [← keep_apply b s y x g hx, ← gy2_apply hx, ← e142 b s y x g, val_main_v143_apply]
    refine congrArg _ ?_
    rw [val_main_call6_v2_apply]
    exact Ideal.ofBits_zero_f32
  unfold val_main_v144
  generalize val_main_v143 (F := Ideal) x2 = v at hv
  pointwise [val_main_cst_34]
  simp only [hv]
  simp

end Cert.RefRead
-- ==== Proof.RefOffsets.lean ====
module

public import proofs.«01_k».proof.Proof.RefMatched

/-!
The reference, fifth part: the offsets of the matched box.
-/

@[expose] public section

namespace Cert.RefRead

open Idealize.ShloMosaic Cert.ReferenceIdeal Cert.ReferenceIdeal.Read Cert.Loss

variable {x2 : (⟨S8x64x4, .f32⟩ : BufTy).Contents (Elt Ideal)} {bx : Fin 8 → Boxes} (hx : Holds x2 bx)
variable (b : Fin 8) (s : Fin 3) (y x : Fin 128) (g : Fin 64)

theorem acx_apply : val_main_v152 (F := Ideal) (ix3 s y x) = ((ctr x : ℝ) : EReal) := by
  pointwise [val_main_v152, val_main_v151, val_main_cst_36, val_main_v150]
  rw [ax1_apply, ax2_apply, Lit.half, ← EReal.coe_sub, ← EReal.coe_add, ← EReal.coe_add, ← EReal.coe_mul]
  congr 1; ring

theorem acy_apply : val_main_v164 (F := Ideal) (ix3 s y x) = ((ctr y : ℝ) : EReal) := by
  pointwise [val_main_v164, val_main_v163, val_main_cst_38, val_main_v162]
  rw [ay1_apply, ay2_apply, Lit.half, ← EReal.coe_sub, ← EReal.coe_add, ← EReal.coe_add, ← EReal.coe_mul]
  congr 1; ring

theorem aw2_apply : val_main_v145 (F := Ideal) (ix3 s y x) = ((2 * half s : ℝ) : EReal) := by
  pointwise [val_main_v145]
  rw [ax1_apply, ax2_apply, ← EReal.coe_sub, ← EReal.coe_add, ← EReal.coe_sub]; congr 1; ring

theorem ah2_apply : val_main_v146 (F := Ideal) (ix3 s y x) = ((2 * half s : ℝ) : EReal) := by
  pointwise [val_main_v146]
  rw [ay1_apply, ay2_apply, ← EReal.coe_sub, ← EReal.coe_add, ← EReal.coe_sub]; congr 1; ring

theorem two_half_pos : 0 < 2 * half s := by fin_cases s <;> norm_num [half]

include hx

theorem dx_apply : val_main_v158 (F := Ideal) x2 (ix4 b s y x) = (bx b).enc s y x 0 := by
  have h1 := x1_apply b s y x hx
  have h2 := x2_apply b s y x hx
  have h3 := acx_apply s y x
  have h4 := aw2_apply s y x
  unfold val_main_v158 val_main_v157 val_main_v156 val_main_v155 val_main_v154 val_main_v153 val_main_v149 val_main_v147
  generalize val_main_v135 (F := Ideal) x2 = p at h1
  generalize val_main_v141 (F := Ideal) x2 = q at h2
  generalize val_main_v152 (F := Ideal) = r at h3
  generalize val_main_v145 (F := Ideal) = t at h4
  pointwise [val_main_v148, val_main_cst_35]
  rw [h1, h2, h3, h4, Lit.half]
  rfl

theorem dy_apply : val_main_v170 (F := Ideal) x2 (ix4 b s y x) = (bx b).enc s y x 1 := by
  have h1 := y1_apply b s y x hx
  have h2 := y2_apply b s y x hx
  have h3 := acy_apply s y x
  have h4 := ah2_apply s y x
  unfold val_main_v170 val_main_v169 val_main_v168 val_main_v167 val_main_v166 val_main_v165 val_main_v161 val_main_v159
  generalize val_main_v138 (F := Ideal) x2 = p at h1
  generalize val_main_v144 (F := Ideal) x2 = q at h2
  generalize val_main_v164 (F := Ideal) = r at h3
  generalize val_main_v146 (F := Ideal) = t at h4
  pointwise [val_main_v160, val_main_cst_37]
  rw [h1, h2, h3, h4, Lit.half]
  rfl

theorem dw_apply : val_main_v177 (F := Ideal) x2 (ix4 b s y x) = (bx b).enc s y x 2 := by
  have h1 := x1_apply b s y x hx
  have h2 := x2_apply b s y x hx
  have h4 := aw2_apply s y x
  have hp := two_half_pos s
  unfold val_main_v177 val_main_v176 val_main_v175 val_main_v174 val_main_v173 val_main_v171
  generalize val_main_v135 (F := Ideal) x2 = p at h1
  generalize val_main_v141 (F := Ideal) x2 = q at h2
  generalize val_main_v145 (F := Ideal) = t at h4
  pointwise [val_main_v172, val_main_cst_39]
  rw [h1, h2, h4, Lit.eps_bits, log_div_width _ hp]
  rfl

theorem dh_apply : val_main_v184 (F := Ideal) x2 (ix4 b s y x) = (bx b).enc s y x 3 := by
  have h1 := y1_apply b s y x hx
  have h2 := y2_apply b s y x hx
  have h4 := ah2_apply s y x
  have hp := two_half_pos s
  unfold val_main_v184 val_main_v183 val_main_v182 val_main_v181 val_main_v180 val_main_v178
  generalize val_main_v138 (F := Ideal) x2 = p at h1
  generalize val_main_v144 (F := Ideal) x2 = q at h2
  generalize val_main_v146 (F := Ideal) = t at h4
  pointwise [val_main_v179, val_main_cst_40]
  rw [h1, h2, h4, Lit.eps_bits, log_div_width _ hp]
  rfl

/-- The four offsets stacked. -/
theorem enc_apply (k : Fin 4) : val_main_v189 (F := Ideal) x2 (ix5 b s k y x) = (bx b).enc s y x k := by
  have h0 := dx_apply hx b s y x
  have h1 := dy_apply hx b s y x
  have h2 := dw_apply hx b s y x
  have h3 := dh_apply hx b s y x
  have e0 : val_main_v185 (F := Ideal) x2 (ix5 b s 0 y x) = val_main_v158 (F := Ideal) x2 (ix4 b s y x) := by
    rw [val_main_v185_apply]
    refine congrArg _ (funext fun a => ?_)
    fin_cases a <;> rfl
  have e1 : val_main_v186 (F := Ideal) x2 (ix5 b s 0 y x) = val_main_v170 (F := Ideal) x2 (ix4 b s y x) := by
    rw [val_main_v186_apply]
    refine congrArg _ (funext fun a => ?_)
    fin_cases a <;> rfl
  have e2 : val_main_v187 (F := Ideal) x2 (ix5 b s 0 y x) = val_main_v177 (F := Ideal) x2 (ix4 b s y x) := by
    rw [val_main_v187_apply]
    refine congrArg _ (funext fun a => ?_)
    fin_cases a <;> rfl
  have e3 : val_main_v188 (F := Ideal) x2 (ix5 b s 0 y x) = val_main_v184 (F := Ideal) x2 (ix4 b s y x) := by
    rw [val_main_v188_apply]
    refine congrArg _ (funext fun a => ?_)
    fin_cases a <;> rfl
  have h : val_main_v189 (F := Ideal) x2 (ix5 b s k y x) =
      ![val_main_v185 (F := Ideal) x2 (ix5 b s 0 y x), val_main_v186 (F := Ideal) x2 (ix5 b s 0 y x),
        val_main_v187 (F := Ideal) x2 (ix5 b s 0 y x), val_main_v188 (F := Ideal) x2 (ix5 b s 0 y x)] k := by
    unfold val_main_v189
    generalize val_main_v185 (F := Ideal) x2 = p0
    generalize val_main_v186 (F := Ideal) x2 = p1
    generalize val_main_v187 (F := Ideal) x2 = p2
    generalize val_main_v188 (F := Ideal) x2 = p3
    match k with
    | 0 => pointwise []
    | 1 => pointwise []
    | 2 => pointwise []
    | 3 => pointwise []
  rw [h, e0, e1, e2, e3, h0, h1, h2, h3]
  fin_cases k <;> rfl

end Cert.RefRead
-- ==== Proof.RefPos.lean ====
module

public import proofs.«01_k».proof.Proof.RefMatch
public import Idealize.ShloMosaic.Lib.Routing.OpsOrder

/-!
The reference, third part: positive and negative samples.
-/

@[expose] public section

namespace Cert.RefRead

open Idealize.ShloMosaic Cert.ReferenceIdeal Cert.ReferenceIdeal.Read Cert.Loss

variable {x2 : (⟨S8x64x4, .f32⟩ : BufTy).Contents (Elt Ideal)} {bx : Fin 8 → Boxes} (hx : Holds x2 bx)
variable (b : Fin 8) (s : Fin 3) (y x : Fin 128) (g : Fin 64)

theorem eq_ofBool {w : BitVec 1} {p : Prop} {_ : Decidable p} (h : w = 1#1 ↔ p) : w = BitVec.ofBool (decide p) := by
  by_cases hp : p
  · rw [h.2 hp]; simp [hp]
  · have : w ≠ 1#1 := fun e => hp (h.1 e)
    have : w = 0#1 := (by decide : ∀ w : BitVec 1, w ≠ 1#1 → w = 0#1) w this
    rw [this]; simp [hp]

theorem ofBool_one {p : Prop} {_ : Decidable p} : BitVec.ofBool (decide p) = 1#1 ↔ p := by
  by_cases h : p <;> simp [h]

theorem any_apply : val_main_v108 (F := Ideal) x2 (ix4 b s y x) = 1#1 ↔
    ∃ g, val_main_v107 (F := Ideal) x2 (ix5 b s y x g) = 1#1 := by
  unfold val_main_v108
  generalize val_main_v107 (F := Ideal) x2 = v
  pointwise [val_main_c_21]
  rw [Routing.fold_ori]
  simp

include hx

omit hx in
theorem e98 : val_main_v98 (F := Ideal) x2 (ix5 b 0 0 0 g) = val_main_v97 (F := Ideal) x2 (ix2 b g) := by
  rw [val_main_v98_apply]
  refine congrArg _ (funext fun a => ?_)
  fin_cases a <;> rfl
omit hx in
theorem e101 : val_main_v101 (F := Ideal) x2 (ix5 b s y x g) = val_main_v100 (F := Ideal) x2 (ix5 b 0 0 0 g) := by
  rw [val_main_v101_apply]
  refine congrArg _ (funext fun a => ?_)
  fin_cases a <;> rfl
theorem less_apply : val_main_v101 (F := Ideal) x2 (ix5 b s y x g) = (((bx b).best g - Lit.del : ℝ) : EReal) := by
  rw [e101, val_main_v100_apply, e98, best_apply hx, val_main_v99_apply, EReal.coe_sub, ← Lit.del_bits]
  rfl

omit hx in
theorem e103 : val_main_v103 (F := Ideal) x2 (ix5 b 0 0 0 g) = val_main_v97 (F := Ideal) x2 (ix2 b g) := by
  rw [val_main_v103_apply]
  refine congrArg _ (funext fun a => ?_)
  fin_cases a <;> rfl
omit hx in
theorem e106 : val_main_v106 (F := Ideal) x2 (ix5 b s y x g) = val_main_v105 (F := Ideal) x2 (ix5 b 0 0 0 g) := by
  rw [val_main_v106_apply]
  refine congrArg _ (funext fun a => ?_)
  fin_cases a <;> rfl

omit hx in
theorem cut_apply (i) : val_main_v104 (F := Ideal) i = (Lit.del : EReal) := by
  rw [val_main_v104_apply, ← Lit.del_bits]
  rfl

open Classical in
theorem over_apply : val_main_v106 (F := Ideal) x2 (ix5 b s y x g) = BitVec.ofBool (decide (Lit.del < (bx b).best g)) := by
  rw [e106, val_main_v105_apply, e103, best_apply hx, cut_apply]
  exact ofBool_congr EReal.coe_lt_coe_iff

open Classical in
theorem close_apply : val_main_v107 (F := Ideal) x2 (ix5 b s y x g) =
    BitVec.ofBool (decide ((bx b).best g - Lit.del ≤ (bx b).iou s y x g Lit.eps ∧ Lit.del < (bx b).best g)) := by
  rw [val_main_v107_apply, over_apply hx, val_main_v102_apply, less_apply hx, iou_apply hx]
  have hc : FloatOps.cmpf (F := Ideal) (φ := .f32) .oge (((bx b).iou s y x g Lit.eps : ℝ) : EReal) (((bx b).best g - Lit.del : ℝ) : EReal) =
      BitVec.ofBool (decide ((bx b).best g - Lit.del ≤ (bx b).iou s y x g Lit.eps)) := ofBool_congr EReal.coe_le_coe_iff
  rw [hc, andi_ofBool]

open Classical in
theorem some_apply : val_main_v108 (F := Ideal) x2 (ix4 b s y x) = BitVec.ofBool (decide
    (∃ g, (bx b).best g - Lit.del ≤ (bx b).iou s y x g Lit.eps ∧ Lit.del < (bx b).best g)) := by
  refine eq_ofBool ((any_apply b s y x).trans (exists_congr fun g => ?_))
  rw [close_apply hx]
  exact ofBool_one

omit hx in
theorem e112 : val_main_v113 (F := Ideal) (ix4 b s y x) = val_main_v39 (F := Ideal) (ix3 s y x) := by
  rw [val_main_v113_apply, val_main_v112_apply]
  refine congrArg _ (funext fun a => ?_)
  fin_cases a <;> rfl

omit hx in
theorem e119 : val_main_v120 (F := Ideal) (ix4 b s y x) = val_main_v39 (F := Ideal) (ix3 s y x) := by
  rw [val_main_v120_apply, val_main_v119_apply]
  refine congrArg _ (funext fun a => ?_)
  fin_cases a <;> rfl

omit hx in
theorem half_cut (i) : val_main_v109 (F := Ideal) i = ((1 / 2 : ℝ) : EReal) := by
  rw [val_main_v109_apply, ← Lit.half]
  rfl

omit hx in
theorem low_cut (i) : val_main_v115 (F := Ideal) i = ((13421773 / 33554432 : ℝ) : EReal) := by
  rw [val_main_v115_apply, ← Lit.low_bits]
  rfl

open Classical in
/-- An anchor is a positive sample. -/
theorem pos_apply : val_main_v114 (F := Ideal) x2 (ix4 b s y x) = BitVec.ofBool (decide ((bx b).Pos s y x)) := by
  rw [val_main_v114_apply, val_main_v111_apply, some_apply hx, e112, inside_apply, val_main_v110_apply, half_cut, max_apply hx]
  have hc : FloatOps.cmpf (F := Ideal) (φ := .f32) .oge (((bx b).iou s y x ((bx b).first s y x) Lit.eps : ℝ) : EReal) ((1 / 2 : ℝ) : EReal) =
      BitVec.ofBool (decide (1 / 2 ≤ (bx b).iou s y x ((bx b).first s y x) Lit.eps)) := ofBool_congr EReal.coe_le_coe_iff
  rw [hc, ori_ofBool, andi_ofBool]
  refine ofBool_congr (and_congr_left fun _ => ?_)
  exact ((bx b).matched_iff s y x Lit.eps_le _ _ ((bx b).first_spec s y x).1).symm

open Classical in
/-- An anchor is a negative sample. -/
theorem neg_apply : val_main_v121 (F := Ideal) x2 (ix4 b s y x) = BitVec.ofBool (decide ((bx b).Neg s y x)) := by
  rw [val_main_v121_apply, val_main_v118_apply, val_main_v117_apply, pos_apply hx, e119, inside_apply, val_main_v116_apply, low_cut, max_apply hx]
  have hc : FloatOps.cmpf (F := Ideal) (φ := .f32) .olt (((bx b).iou s y x ((bx b).first s y x) Lit.eps : ℝ) : EReal) ((13421773 / 33554432 : ℝ) : EReal) =
      BitVec.ofBool (decide ((bx b).iou s y x ((bx b).first s y x) Lit.eps < 13421773 / 33554432)) := ofBool_congr EReal.coe_lt_coe_iff
  have : ~~~(BitVec.ofBool (decide ((bx b).Pos s y x))) = BitVec.ofBool (decide (¬ (bx b).Pos s y x)) := by
    by_cases h : (bx b).Pos s y x <;> simp [h]
  rw [hc, this, andi_ofBool, andi_ofBool]
  refine ofBool_congr (and_congr_left fun _ => and_congr_left fun _ => ?_)
  exact (bx b).iou_lt_low s y x _ Lit.eps_le

theorem posf_apply : val_main_v122 (F := Ideal) x2 (ix4 b s y x) = (bx b).posf s y x := by
  classical
  rw [val_main_v122_apply, pos_apply hx]
  exact bit_ofBool _

theorem negf_apply : val_main_v126 (F := Ideal) x2 (ix4 b s y x) = bit ((bx b).Neg s y x) := by
  classical
  rw [val_main_v126_apply, neg_apply hx]
  exact bit_ofBool _

theorem lw_apply : val_main_v124 (F := Ideal) x2 (ix4 b s y x) = (bx b).lw s y x := by
  classical
  rw [val_main_v124_apply, val_main_v123_apply, pos_apply hx, neg_apply hx, ori_ofBool]
  refine (bit_ofBool _).trans (bit_or ?_)
  rintro ⟨h1, h2⟩
  exact h2.1.2 h1

end Cert.RefRead
-- ==== Proof.RefTerms.lean ====
module

public import proofs.«01_k».proof.Proof.RefOffsets
public import proofs.«01_k».proof.Proof.RefPos

/-!
The reference, last part: the weighted terms, their sums over the batch, and the two losses.
-/

@[expose] public section

namespace Cert.RefRead

open Idealize.ShloMosaic Cert.ReferenceIdeal Cert.ReferenceIdeal.Read Cert.Loss

/-- The channel of offset `k` of anchor size `s`. -/
def chan (s : Fin 3) (k : Fin 4) : Fin 12 := ⟨4 * s.val + k.val, by omega⟩

variable {x0 : (⟨S8x3x128x128, .f32⟩ : BufTy).Contents (Elt Ideal)} {x1 : (⟨S8x12x128x128, .f32⟩ : BufTy).Contents (Elt Ideal)}
variable {x2 : (⟨S8x64x4, .f32⟩ : BufTy).Contents (Elt Ideal)} {bx : Fin 8 → Boxes} (hx : Holds x2 bx)
variable (b : Fin 8) (s : Fin 3) (k : Fin 4) (y x : Fin 128)

theorem zero_apply (i) : val_main_v193 (F := Ideal) i = 0 := by
  rw [val_main_v193_apply]
  exact Ideal.ofBits_zero_f32

theorem reg_apply : val_main_v205 (F := Ideal) x1 (ix5 b s k y x) = x1 (ix4 b (chan s k) y x) := by
  rw [val_main_v205_apply]
  refine congrArg _ (funext fun a => Fin.ext ?_)
  have := s.isLt
  have := k.isLt
  have := y.isLt
  have := x.isLt
  fin_cases a
  · show ((((b.val * 3 + s.val) * 4 + k.val) * 128 + y.val) * 128 + x.val) / 196608 = b.val
    omega
  · show ((((b.val * 3 + s.val) * 4 + k.val) * 128 + y.val) * 128 + x.val) / 16384 % 12 = 4 * s.val + k.val
    omega
  · show ((((b.val * 3 + s.val) * 4 + k.val) * 128 + y.val) * 128 + x.val) / 128 % 128 = y.val
    omega
  · show ((((b.val * 3 + s.val) * 4 + k.val) * 128 + y.val) * 128 + x.val) % 128 = x.val
    omega

theorem e191 : val_main_v191 (F := Ideal) x2 (ix5 b s k y x) = val_main_v122 (F := Ideal) x2 (ix4 b s y x) := by
  rw [val_main_v191_apply, val_main_v190_apply]
  refine congrArg _ (funext fun a => ?_)
  fin_cases a <;> rfl

theorem e209 : val_main_v209 (F := Ideal) x2 (ix5 b s k y x) = val_main_v122 (F := Ideal) x2 (ix4 b s y x) := by
  rw [val_main_v209_apply, val_main_v208_apply]
  refine congrArg _ (funext fun a => ?_)
  fin_cases a <;> rfl

include hx

theorem cls_apply : val_main_v202 (F := Ideal) x0 x2 (ix4 b s y x) = (bx b).clsTerm s y x (x0 (ix4 b s y x)) := by
  rw [val_main_v202_apply, val_main_v201_apply, val_main_v196_apply, val_main_v194_apply, val_main_v195_apply, val_main_v200_apply,
    val_main_v199_apply, val_main_v198_apply, val_main_v197_apply, posf_apply hx, lw_apply hx, zero_apply]
  rfl

theorem box_apply : val_main_v210 (F := Ideal) x1 x2 (ix5 b s k y x) =
    (bx b).dist s y x k (x1 (ix4 b (chan s k) y x)) * (bx b).posf s y x := by
  rw [val_main_v210_apply, val_main_v207_apply, val_main_v206_apply, val_main_v192_apply, reg_apply, e191, e209, posf_apply hx, enc_apply hx]
  exact dist_bit _ _ _

/-- The sum of all classification terms. -/
theorem cls_sum (i) : val_main_v203 (F := Ideal) x0 x2 i = ∑ b, clsSum (bx b) fun s y x => x0 (ix4 b s y x) := by
  rw [val_main_v203_apply, sum_idx4]
  refine (congrArg (· + _) Ideal.ofBits_zero_f32).trans ((zero_add _).trans ?_)
  exact Finset.sum_congr rfl fun b _ => Finset.sum_congr rfl fun s _ => Finset.sum_congr rfl fun y _ => Finset.sum_congr rfl fun x _ => cls_apply hx b s y x

omit hx in
/-- A truth value weighs a sum of four as it weighs each. -/
theorem bit_sum_four (f : Fin 4 → EReal) (p : Prop) : ∑ k, f k * bit p = (f 0 + f 1 + f 2 + f 3) * bit p := by
  rw [Fin.sum_univ_four]
  unfold bit
  split <;> simp

/-- The sum of all offset terms. -/
theorem box_sum (i) : val_main_v211 (F := Ideal) x1 x2 i = ∑ b, boxSum (bx b) fun s k y x => x1 (ix4 b (chan s k) y x) := by
  rw [val_main_v211_apply, sum_idx5]
  refine (congrArg (· + _) Ideal.ofBits_zero_f32).trans ((zero_add _).trans ?_)
  refine Finset.sum_congr rfl fun b _ => Finset.sum_congr rfl fun s _ => ?_
  rw [Finset.sum_comm]
  refine Finset.sum_congr rfl fun y _ => ?_
  rw [Finset.sum_comm]
  refine Finset.sum_congr rfl fun x _ => ?_
  rw [Finset.sum_congr rfl fun k _ => box_apply hx b s k y x]
  exact bit_sum_four (fun k => (bx b).dist s y x k (x1 (ix4 b (chan s k) y x))) _

theorem pos_sum (i) : val_main_v125 (F := Ideal) x2 i = ∑ b : Fin 8, ∑ s : Fin 3, ∑ y : Fin 128, ∑ x : Fin 128, (bx b).posf s y x := by
  rw [val_main_v125_apply, sum_idx4]
  refine (congrArg (· + _) Ideal.ofBits_zero_f32).trans ((zero_add _).trans ?_)
  exact Finset.sum_congr rfl fun b _ => Finset.sum_congr rfl fun s _ => Finset.sum_congr rfl fun y _ => Finset.sum_congr rfl fun x _ => posf_apply hx b s y x

theorem neg_sum (i) : val_main_v127 (F := Ideal) x2 i = ∑ b : Fin 8, ∑ s : Fin 3, ∑ y : Fin 128, ∑ x : Fin 128, bit ((bx b).Neg s y x) := by
  rw [val_main_v127_apply, sum_idx4]
  refine (congrArg (· + _) Ideal.ofBits_zero_f32).trans ((zero_add _).trans ?_)
  exact Finset.sum_congr rfl fun b _ => Finset.sum_congr rfl fun s _ => Finset.sum_congr rfl fun y _ => Finset.sum_congr rfl fun x _ => negf_apply hx b s y x

/-- The number of samples, at least one. -/
theorem num_apply (i) : val_main_v129 (F := Ideal) x2 i = num bx := by
  rw [val_main_v129_apply, val_main_v128_apply, pos_sum hx, neg_sum hx]
  refine (congrArg (max _) Ideal.ofBits_one_f32).trans (congrArg (max · 1) ?_)
  refine Finset.sum_add_distrib.symm.trans (Finset.sum_congr rfl fun b _ => ?_)
  refine Finset.sum_add_distrib.symm.trans (Finset.sum_congr rfl fun s _ => ?_)
  refine Finset.sum_add_distrib.symm.trans (Finset.sum_congr rfl fun y _ => ?_)
  exact Finset.sum_add_distrib.symm

theorem cls_loss (i) : val_main_v204 (F := Ideal) x0 x2 i = clsLoss bx fun b s y x => x0 (ix4 b s y x) := by
  rw [val_main_v204_apply, cls_sum hx, num_apply hx]
  rfl

theorem box_loss (i) : val_main_v212 (F := Ideal) x1 x2 i = boxLoss bx fun b s k y x => x1 (ix4 b (chan s k) y x) := by
  rw [val_main_v212_apply, box_sum hx, num_apply hx]
  rfl

/-- The reference's result: the two losses. -/
theorem result_apply (j : Fin 2) : val_main_v215 (F := Ideal) x0 x1 x2 (ix1 j) =
    ![clsLoss bx fun b s y x => x0 (ix4 b s y x), boxLoss bx fun b s k y x => x1 (ix4 b (chan s k) y x)] j := by
  have h0 := fun i => (val_main_v213_apply (F := Ideal) x0 x2 i).trans (cls_loss hx _)
  have h1 := fun i => (val_main_v214_apply (F := Ideal) x1 x2 i).trans (box_loss hx _)
  unfold val_main_v215
  generalize val_main_v213 (F := Ideal) x0 x2 = p at h0
  generalize val_main_v214 (F := Ideal) x1 x2 = q at h1
  match j with
  | 0 => pointwise []; exact h0 _
  | 1 => pointwise []; exact h1 _

end Cert.RefRead
-- ==== Proof.Equal.lean ====
module

public import proofs.«01_k».proof.Defs
public import proofs.«01_k».proof.Proof.Frames
public import proofs.«01_k».proof.Proof.KernelTail
public import proofs.«01_k».proof.Proof.RefTerms

/-!
The value claim: from equal arguments of any kind, kernel and reference end with the same two losses.
-/

@[expose] public section

noncomputable section

namespace Cert.Proof

open Idealize.ShloMosaic Idealize.SL.Sem Cert.KernelBlock

/-- Two losses that agree at both places are the same array. -/
theorem ext_two {p q : FVec Ideal KernelIdeal.S2 .f32} (h : ∀ j : Fin 2, p (ix1 j) = q (ix1 j)) : p = q := by
  funext i
  have e : i = ix1 (i 0) := by
    funext a; fin_cases a; rfl
  rw [e]; exact h _

theorem equal_values : Cert.algebraic_KernelIdeal_ReferenceIdeal
    (hKernelIdeal := Cert.KernelIdeal.Gen.facts) (hReferenceIdeal := Cert.ReferenceIdeal.Gen.facts) := by
  intro m g m' g' hpre hargs
  refine ⟨fun c => losses (sums (rows m c)), ?_, ?_⟩
  · refine (θ_run _ _ _).mono (fun r h c => ?_) (θ_run_and (Cert.KernelIdeal.Gen.run_main m g) (Cert.KernelIdeal.Gen.unchanged m g))
    exact ⟨((h.1 c).2 KernelIdeal.main_v17 (by decide)).trans (tail_eq m c), h.2 c⟩
  · refine (θ_run _ _ _).mono (fun r h c => ⟨(h c).1.trans ?_, (h c).2⟩) (Cert.ReferenceIdeal.Value.run (F := Ideal) m' g')
    obtain ⟨bx, hx⟩ := RefRead.exists_boxes (in2 m c)
    have e0 := (hargs c).1
    have e1 := (hargs c).2.1
    have e2 := (hargs c).2.2
    refine (ReferenceIdeal.Read.val_main_v215_eq _).trans (ext_two fun j => ?_)
    refine Eq.trans ?_ (losses_eq m c hx j).symm
    have hx' : RefRead.Holds (m' ((c.tc : Thread ReferenceIdeal.nD ReferenceIdeal.τ).loc ReferenceIdeal.main_arg2)) bx := by
      rw [e2]; exact hx
    refine (RefRead.result_apply (x0 := m' ((c.tc : Thread ReferenceIdeal.nD ReferenceIdeal.τ).loc ReferenceIdeal.main_arg0))
      (x1 := m' ((c.tc : Thread ReferenceIdeal.nD ReferenceIdeal.τ).loc ReferenceIdeal.main_arg1)) hx' j).trans ?_
    rw [e0, e1]
    rfl

end Cert.Proof

end
-- ==== Proof.Sign.lean ====
module

public import proofs.«01_k».proof.Defs
public import proofs.«01_k».proof.Proof.Gen.Post_offset_loss_nonneg
public import proofs.«01_k».proof.Proof.Equal

/-!
The offset loss is not negative, whatever the arguments.
-/

@[expose] public section

noncomputable section

namespace Cert.Loss

open Idealize.ShloMosaic

theorem Boxes.dist_nonneg (b : Boxes) (s : Fin 3) (y x : Fin 128) (k : Fin 4) (r : EReal) : 0 ≤ b.dist s y x k r := by
  unfold Boxes.dist
  rcases le_total 0 (r - b.enc s y x k) with h | h
  · exact h.trans (le_max_left _ _)
  · exact (EReal.neg_nonneg.2 h).trans (le_max_right _ _)

theorem boxSum_nonneg (b : Boxes) (r : Fin 3 → Fin 4 → Fin 128 → Fin 128 → EReal) : 0 ≤ boxSum b r :=
  Finset.sum_nonneg fun s _ => Finset.sum_nonneg fun y _ => Finset.sum_nonneg fun x _ => mul_nonneg
    (add_nonneg (add_nonneg (add_nonneg (b.dist_nonneg ..) (b.dist_nonneg ..)) (b.dist_nonneg ..)) (b.dist_nonneg ..)) (bit_nonneg _)

theorem boxLoss_nonneg (b : Fin 8 → Boxes) (r : Fin 8 → Fin 3 → Fin 4 → Fin 128 → Fin 128 → EReal) : 0 ≤ boxLoss b r := by
  have hn : 0 < num b := lt_of_lt_of_le zero_lt_one (le_max_right _ _)
  unfold boxLoss Ideal.div
  rw [if_neg hn.ne']
  exact mul_nonneg (Finset.sum_nonneg fun i _ => boxSum_nonneg ..) (EReal.inv_nonneg_of_nonneg hn.le)

end Cert.Loss

namespace Cert.Proof

open Idealize.ShloMosaic Idealize.SL.Sem Cert.KernelBlock Cert.Loss

/-- The predicate on a pair whose second entry is not negative. -/
theorem post_ones (a : FVec Ideal Post_offset_loss_nonneg.S8x3x128x128 .f32) (r : FVec Ideal Post_offset_loss_nonneg.S8x12x128x128 .f32)
    (t : FVec Ideal Post_offset_loss_nonneg.S8x64x4 .f32) (v : FVec Ideal Post_offset_loss_nonneg.S2 .f32) (hv : 0 ≤ v (ix1 1)) :
    Cert.Post_offset_loss_nonneg.fn (F := Ideal) a r t v = fun _ => 1#1 := by
  funext i
  have hi : i = ix1 0 := by
    funext a; fin_cases a; exact Fin.ext (Nat.lt_one_iff.1 (i 0).isLt)
  rw [hi]
  unfold Cert.Post_offset_loss_nonneg.fn
  pointwise []
  rw [decide_eq_true hv]
  rfl

/-- The second loss the kernel ends with. -/
theorem second_nonneg (m : (ℓ : Loc KernelIdeal.nD KernelIdeal.τ KernelIdeal.sig) → Buf (Elt Ideal) ℓ) (c : Dev KernelIdeal.nD) :
    0 ≤ losses (sums (rows m c)) (ix1 1) := by
  obtain ⟨bx, hx⟩ := RefRead.exists_boxes (in2 m c)
  rw [losses_eq m c hx 1]
  exact boxLoss_nonneg _ _

theorem offset_loss_nonneg : Cert.holds_KernelIdeal_offset_loss_nonneg
    (hKernelIdeal := Cert.KernelIdeal.Gen.facts) (hPost_offset_loss_nonneg := Cert.Post_offset_loss_nonneg.Gen.facts) := by
  intro m g _
  refine (θ_run _ _ _).mono (fun r h c => ?_) (θ_run_and (Cert.KernelIdeal.Gen.run_main m g) (Cert.KernelIdeal.Gen.unchanged m g))
  have e := ((h.1 c).2 KernelIdeal.main_v17 (by decide)).trans (tail_eq m c)
  exact ⟨(h.2 c).1, (h.2 c).2.1, (h.2 c).2.2, (congrArg _ e).trans (post_ones _ _ _ _ (second_nonneg m c))⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Run
public import proofs.«01_k».proof.Proof.Gen.ReferenceIdeal
public import proofs.«01_k».proof.Proof.Gen.Post_offset_loss_nonneg
public import proofs.«01_k».proof.Proof.Gen.ReferenceIdeal.Run
public import proofs.«01_k».proof.Proof.Gen.ReferenceIdeal.Read
public import proofs.«01_k».proof.Proof.Frames
public import proofs.«01_k».proof.Proof.Equal
public import proofs.«01_k».proof.Proof.Sign
public import Idealize.ShloMosaic.Adequacy
public import Idealize.ShloMosaic.Init

@[expose] public section

noncomputable section

namespace Cert.Proof

open Idealize.ShloMosaic Idealize.SL.Sem Cert.Kernel

/-- Everything claimed: the four frames, the named constants, the equal values, and the sign of the offset loss. -/
theorem claim : Cert.Claim :=
  ⟨Cert.Kernel.Gen.facts, Cert.KernelIdeal.Gen.facts, Cert.Reference.Gen.facts, Cert.ReferenceIdeal.Gen.facts,
    Cert.Post_offset_loss_nonneg.Gen.facts,
    kernel_frame, ideal_frame, word_reference_frame, reference_frame,
    named_constants, equal_values, offset_loss_nonneg⟩

end Cert.Proof

end
